-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩
abbrev S2x512x8x64 : Shape := ⟨4, ![2, 512, 8, 64]⟩
abbrev S8x128x768 : Shape := ⟨3, ![8, 128, 768]⟩
abbrev S7x128x768 : Shape := ⟨3, ![7, 128, 768]⟩
abbrev S7 : Shape := ⟨1, ![7]⟩
abbrev S1024x768 : Shape := ⟨2, ![1024, 768]⟩
abbrev S1024x512 : Shape := ⟨2, ![1024, 512]⟩
abbrev S512x512 : Shape := ⟨2, ![512, 512]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S1 : Shape := ⟨1, ![1]⟩
abbrev S1x128x768 : Shape := ⟨3, ![1, 128, 768]⟩
abbrev S128x768 : Shape := ⟨2, ![128, 768]⟩

abbrev nBuf : Space → Nat
  | .hbm => 34
  | .vmem => 8
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x64x64, .f32⟩
  | .hbm, ⟨3, _⟩ => ⟨S2x512x64x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x8x64, .f32⟩
  | .hbm, ⟨33, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S8x128x768, .f32⟩
  | .local _ .vmem, ⟨7, _⟩ => ⟨S7x128x768, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_261 : BitVec 32 := 1#32
  let v436 : BitVec 32 := Scalar.muli v13 c1_i32_261
  let v437 : BitVec 32 := Scalar.addi c0_i32_262 v436
  v437.toNat
def k0_dev2 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_264 : BitVec 32 := 1#32
  let v438 : BitVec 32 := Scalar.muli v24 c1_i32_264
  let v439 : BitVec 32 := Scalar.addi c0_i32_265 v438
  v439.toNat
def k0_off1 (d0 : Dev nD) (c0_i32_266 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v440 : BitVec 32 := Scalar.subi v2 c0_i32_266
  let c8_i32_267 : BitVec 32 := 8#32
  let c0_i32_268 : BitVec 32 := 0#32
  let v441 : BitVec 1 := Scalar.cmpi .eq c8_i32_267 c0_i32_268
  let c1_i32_269 : BitVec 32 := 1#32
  let v442 : BitVec 32 := Scalar.select v441 c1_i32_269 c8_i32_267
  let v443 : BitVec 32 := Scalar.remsi v440 v442
  let c0_i32_271 : BitVec 32 := 0#32
  let v445 : BitVec 1 := Scalar.cmpi .slt v443 c0_i32_271
  let c0_i32_272 : BitVec 32 := 0#32
  let v446 : BitVec 1 := Scalar.cmpi .slt v442 c0_i32_272
  let v447 : BitVec 1 := Scalar.xori v445 v446
  let c0_i32_270 : BitVec 32 := 0#32
  let v444 : BitVec 1 := Scalar.cmpi .ne v443 c0_i32_270
  let v448 : BitVec 1 := Scalar.andi v447 v444
  let v449 : BitVec 32 := Scalar.addi v443 v442
  let v450 : BitVec 32 := Scalar.select v448 v449 v443
  let c0_i32_288 : BitVec 32 := 0#32
  let c0_i32_289 : BitVec 32 := 0#32
  ![v450.toNat, 0, 0]
def k0_dev3 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_284 : BitVec 32 := 1#32
  let v463 : BitVec 32 := Scalar.muli v24 c1_i32_284
  let v464 : BitVec 32 := Scalar.addi c0_i32_285 v463
  v464.toNat
def k0_off2 (d0 : Dev nD) (c0_i32_273 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v451 : BitVec 32 := Scalar.subi v2 c0_i32_273
  let c1_i32_274 : BitVec 32 := 1#32
  let v452 : BitVec 32 := Scalar.subi v451 c1_i32_274
  let c8_i32_275 : BitVec 32 := 8#32
  let c0_i32_276 : BitVec 32 := 0#32
  let v453 : BitVec 1 := Scalar.cmpi .eq c8_i32_275 c0_i32_276
  let c1_i32_277 : BitVec 32 := 1#32
  let v454 : BitVec 32 := Scalar.select v453 c1_i32_277 c8_i32_275
  let v455 : BitVec 32 := Scalar.remsi v452 v454
  let c0_i32_279 : BitVec 32 := 0#32
  let v457 : BitVec 1 := Scalar.cmpi .slt v455 c0_i32_279
  let c0_i32_280 : BitVec 32 := 0#32
  let v458 : BitVec 1 := Scalar.cmpi .slt v454 c0_i32_280
  let v459 : BitVec 1 := Scalar.xori v457 v458
  let c0_i32_278 : BitVec 32 := 0#32
  let v456 : BitVec 1 := Scalar.cmpi .ne v455 c0_i32_278
  let v460 : BitVec 1 := Scalar.andi v459 v456
  let v461 : BitVec 32 := Scalar.addi v455 v454
  let v462 : BitVec 32 := Scalar.select v460 v461 v455
  let v487 : Index := Scalar.indexCast v462
  let c0_307 : Index := 0#32
  let c0_308 : Index := 0#32
  ![v487.toNat, 0, 0]
def k0_dev4 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_332 : BitVec 32 := 1#32
  let v520 : BitVec 32 := Scalar.muli v24 c1_i32_332
  let v521 : BitVec 32 := Scalar.addi c0_i32_333 v520
  v521.toNat
def k0_dev5 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_380 : BitVec 32 := 1#32
  let v577 : BitVec 32 := Scalar.muli v24 c1_i32_380
  let v578 : BitVec 32 := Scalar.addi c0_i32_381 v577
  v578.toNat
def k0_dev6 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_428 : BitVec 32 := 1#32
  let v634 : BitVec 32 := Scalar.muli v24 c1_i32_428
  let v635 : BitVec 32 := Scalar.addi c0_i32_429 v634
  v635.toNat
def k0_dev7 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_475 : BitVec 32 := 1#32
  let v691 : BitVec 32 := Scalar.muli v24 c1_i32_475
  let v692 : BitVec 32 := Scalar.addi c0_i32_476 v691
  v692.toNat
def k0_dev8 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_522 : BitVec 32 := 1#32
  let v748 : BitVec 32 := Scalar.muli v24 c1_i32_522
  let v749 : BitVec 32 := Scalar.addi c0_i32_523 v748
  v749.toNat
def k0_dev9 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_569 : BitVec 32 := 1#32
  let v805 : BitVec 32 := Scalar.muli v24 c1_i32_569
  let v806 : BitVec 32 := Scalar.addi c0_i32_570 v805
  v806.toNat
def k0_off3 (d0 : Dev nD) (c0_i32_600 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_599 : BitVec 32 := 1#32
  let v839 : BitVec 32 := Scalar.addi v2 c1_i32_599
  let v840 : BitVec 32 := Scalar.subi v839 c0_i32_600
  let c8_i32_601 : BitVec 32 := 8#32
  let c0_i32_602 : BitVec 32 := 0#32
  let v841 : BitVec 1 := Scalar.cmpi .eq c8_i32_601 c0_i32_602
  let c1_i32_603 : BitVec 32 := 1#32
  let v842 : BitVec 32 := Scalar.select v841 c1_i32_603 c8_i32_601
  let v843 : BitVec 32 := Scalar.remsi v840 v842
  let c0_i32_605 : BitVec 32 := 0#32
  let v845 : BitVec 1 := Scalar.cmpi .slt v843 c0_i32_605
  let c0_i32_606 : BitVec 32 := 0#32
  let v846 : BitVec 1 := Scalar.cmpi .slt v842 c0_i32_606
  let v847 : BitVec 1 := Scalar.xori v845 v846
  let c0_i32_604 : BitVec 32 := 0#32
  let v844 : BitVec 1 := Scalar.cmpi .ne v843 c0_i32_604
  let v848 : BitVec 1 := Scalar.andi v847 v844
  let v849 : BitVec 32 := Scalar.addi v843 v842
  let v850 : BitVec 32 := Scalar.select v848 v849 v843
  let c0_i32_611 : BitVec 32 := 0#32
  let c0_i32_612 : BitVec 32 := 0#32
  ![v850.toNat, 0, 0]
def k0_dev10 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_609 : BitVec 32 := 1#32
  let v851 : BitVec 32 := Scalar.muli v24 c1_i32_609
  let v852 : BitVec 32 := Scalar.addi c0_i32_610 v851
  v852.toNat
def k0_dev11 (d0 : Dev nD) : Nat :=
  let c0_i32_641 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_640 : BitVec 32 := 1#32
  let v887 : BitVec 32 := Scalar.muli v24 c1_i32_640
  let v888 : BitVec 32 := Scalar.addi c0_i32_641 v887
  v888.toNat
def k0_dev12 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_671 : BitVec 32 := 1#32
  let v923 : BitVec 32 := Scalar.muli v24 c1_i32_671
  let v924 : BitVec 32 := Scalar.addi c0_i32_672 v923
  v924.toNat
def k0_dev13 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_702 : BitVec 32 := 1#32
  let v959 : BitVec 32 := Scalar.muli v24 c1_i32_702
  let v960 : BitVec 32 := Scalar.addi c0_i32_703 v959
  v960.toNat
def k0_dev14 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_733 : BitVec 32 := 1#32
  let v995 : BitVec 32 := Scalar.muli v24 c1_i32_733
  let v996 : BitVec 32 := Scalar.addi c0_i32_734 v995
  v996.toNat
def k0_dev15 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_764 : BitVec 32 := 1#32
  let v1031 : BitVec 32 := Scalar.muli v24 c1_i32_764
  let v1032 : BitVec 32 := Scalar.addi c0_i32_765 v1031
  v1032.toNat
def k0_dev16 (d0 : Dev nD) : Nat :=
  let c0_i32_796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_795 : BitVec 32 := 1#32
  let v1067 : BitVec 32 := Scalar.muli v24 c1_i32_795
  let v1068 : BitVec 32 := Scalar.addi c0_i32_796 v1067
  v1068.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x4096, .f32⟩
  | .hbm, ⟨2, _⟩ => ⟨S2x512x64x64, .f32⟩
  | .hbm, ⟨3, _⟩ => ⟨S2x512x64x64, .f32⟩
  | .hbm, ⟨4, _⟩ => ⟨S4096x768, .f32⟩
  | .hbm, ⟨5, _⟩ => ⟨S2x512x4096, .f32⟩
  | .hbm, ⟨6, _⟩ => ⟨S2x512x64x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S512x512, .i1⟩
  | .hbm, ⟨54, _⟩ => ⟨S512x512, .i1⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i1⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S_, .i32⟩
  | .hbm, ⟨73, _⟩ => ⟨S_, .i1⟩
  | .hbm, ⟨74, _⟩ => ⟨S512x512, .i1⟩
  | .hbm, ⟨75, _⟩ => ⟨S512x512, .i1⟩
  | .hbm, ⟨76, _⟩ => ⟨S512x512, .i1⟩
  | .hbm, ⟨77, _⟩ => ⟨S512x512, .i32⟩
  | .hbm, ⟨78, _⟩ => ⟨S512x512, .i32⟩
  | .hbm, ⟨79, _⟩ => ⟨S512x512, .i32⟩
  | .hbm, ⟨80, _⟩ => ⟨S_, .i32⟩
  | .hbm, ⟨81, _⟩ => ⟨S512x512, .i32⟩
  | .hbm, ⟨82, _⟩ => ⟨S512x512, .i1⟩
  | .hbm, ⟨83, _⟩ => ⟨S512x512, .i1⟩
  | .hbm, ⟨84, _⟩ => ⟨S2x64x512x512, .f32⟩
  | .hbm, ⟨85, _⟩ => ⟨S_, .f32⟩
  | .hbm, ⟨86, _⟩ => ⟨S2x64x512x512, .f32⟩
  | .hbm, ⟨87, _⟩ => ⟨S2x64x512x512, .f32⟩
  | .hbm, ⟨88, _⟩ => ⟨S1x1x512x512, .i1⟩
  | .hbm, ⟨89, _⟩ => ⟨S_, .f32⟩
  | .hbm, ⟨90, _⟩ => ⟨S_, .f32⟩
  | .hbm, ⟨91, _⟩ => ⟨S2x64x512x512, .i1⟩
  | .hbm, ⟨92, _⟩ => ⟨S2x64x512x512, .f32⟩
  | .hbm, ⟨93, _⟩ => ⟨S2x64x512x512, .f32⟩
  | .hbm, ⟨94, _⟩ => ⟨S_, .f32⟩
  | .hbm, ⟨95, _⟩ => ⟨S2x64x512, .f32⟩
  | .hbm, ⟨96, _⟩ => ⟨S2x64x512x1, .f32⟩
  | .hbm, ⟨97, _⟩ => ⟨S2x64x512x512, .f32⟩
  | .hbm, ⟨98, _⟩ => ⟨S2x64x512x512, .f32⟩
  | .hbm, ⟨99, _⟩ => ⟨S2x64x512x512, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S2x64x512, .f32⟩
  | .hbm, ⟨105, _⟩ => ⟨S2x64x512x1, .f32⟩
  | .hbm, ⟨106, _⟩ => ⟨S_, .f32⟩
  | .hbm, ⟨107, _⟩ => ⟨S_, .f32⟩
  | .hbm, ⟨108, _⟩ => ⟨S2x64x512x1, .i1⟩
  | .hbm, ⟨109, _⟩ => ⟨S2x64x512x1, .f32⟩
  | .hbm, ⟨110, _⟩ => ⟨S2x64x512x1, .f32⟩
  | .hbm, ⟨111, _⟩ => ⟨S2x64x512x512, .f32⟩
  | .hbm, ⟨112, _⟩ => ⟨S2x64x512x512, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S2x64x512x512, .i1⟩
  | .hbm, ⟨117, _⟩ => ⟨S2x64x512x512, .f32⟩
  | .hbm, ⟨118, _⟩ => ⟨S2x64x512x512, .f32⟩
  | .hbm, ⟨119, _⟩ => ⟨S2x64x64x512, .f32⟩
  | .hbm, ⟨120, _⟩ => ⟨S2x512x64x64, .f32⟩
  | .hbm, ⟨121, _⟩ => ⟨S2x512x4096, .f32⟩
  | .hbm, ⟨122, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Ring.lean ====
/-
  The ring's arithmetic and its values. The body first leaves device `c`'s partial product in the accumulator, eight
  chunks of rows; seven steps then pass chunks around the ring and add them up (step `s`: device `c` sends chunk `c - s` to
  `c + 1`, which adds it to its own), and seven more pass the finished chunks around. Here: the neighbours, the chunk of a
  step, the semaphore of a step, the accumulator's chunks and the receive buffer's slots as memrefs, what each chunk holds
  before each step, and the printed device and offset chains in closed form.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Ring
public import Idealize.ShloMosaic.Lib.ViewIndex
public import Idealize.ShloMosaic.Lib.Tactic
public import Idealize.ShloMosaic.Lib.Pipeline.RegionTalk
public import Idealize.ShloMosaic.Lib.Pipeline.Kit

@[expose] public section

noncomputable section

namespace Cert.KernelIdeal.Run

open Cert.KernelIdeal Cert.KernelIdeal.Gen
open Idealize.ShloMosaic
open Idealize.ShloMosaic.TcCoe

variable {F : FTy → Type} [FloatOps F]

/-! ## Neighbours and chunks -/

/-- The device `c` sends to, -/
def right (c : Dev nD) : Dev nD := ⟨(c.val + 1) % 8, Nat.mod_lt _ (by decide)⟩
/-- the device it receives from, -/
def left (c : Dev nD) : Dev nD := ⟨(c.val + 7) % 8, Nat.mod_lt _ (by decide)⟩
/-- and the chunk (or device) `s` places behind `c`. -/
def back (c : Dev nD) (s : ℕ) : Dev nD := ⟨(c.val + (16 - s)) % 8, Nat.mod_lt _ (by decide)⟩

theorem left_right (c : Dev nD) : left (right c) = c := by revert c; decide
theorem right_left (c : Dev nD) : right (left c) = c := by revert c; decide
/-- The ring as a permutation of the devices. -/
def ring : Dev nD ≃ Dev nD := ⟨right, left, left_right, right_left⟩

theorem back_zero (c : Dev nD) : back c 0 = c := by revert c; decide
theorem back_right (c : Dev nD) (s : ℕ) (hs : s < 14) : back (right c) (s + 1) = back c s := by
  have h : ∀ (c : Dev nD) (s : Fin 14), back (right c) (s.val + 1) = back c s.val := by decide
  exact h c ⟨s, hs⟩
theorem back_left (c : Dev nD) (s : ℕ) (hs : s < 14) : back (left c) s = back c (s + 1) := by
  have h : ∀ (c : Dev nD) (s : Fin 14), back (left c) s.val = back c (s.val + 1) := by decide
  exact h c ⟨s, hs⟩
theorem back_seven (c : Dev nD) : back c 7 = right c := by revert c; decide

/-! ## The memrefs -/

/-- The accumulator and the receive buffer, whole. -/
abbrev accM : Memref sig .tc .vmem S8x128x768 .f32 := Memref.whole cc0_scratch0
abbrev rsM : Memref sig .tc .vmem S7x128x768 .f32 := Memref.whole cc0_scratch1

theorem accInb (j : Fin 8) : ∀ a, (![j.val, 0, 0] : Fin 3 → ℕ) a + S1x128x768.size a ≤ S8x128x768.size a := by
  revert j; decide
theorem rsInb (s : ℕ) : ∀ a, (![s % 7, 0, 0] : Fin 3 → ℕ) a + S1x128x768.size a ≤ S7x128x768.size a := by
  have h : ∀ t : Fin 7, ∀ a, (![t.val, 0, 0] : Fin 3 → ℕ) a + S1x128x768.size a ≤ S7x128x768.size a := by decide
  exact h ⟨s % 7, Nat.mod_lt _ (by decide)⟩

/-- Chunk `j`'s rectangle of the accumulator, slot `s`'s of the receive buffer. -/
abbrev accR (j : Fin 8) : Rect S8x128x768 := Rect.unit (s := S8x128x768) ![j.val, 0, 0] S1x128x768.size (accInb j)
abbrev rsR (s : ℕ) : Rect S7x128x768 := Rect.unit (s := S7x128x768) ![s % 7, 0, 0] S1x128x768.size (rsInb s)

/-- A chunk of the accumulator and a slot of the receive buffer as the transfers address them. -/
abbrev accQ (off : Fin 3 → ℕ) (inb : ∀ a, off a + S1x128x768.size a ≤ S8x128x768.size a) : Memref sig .tc .vmem S128x768 .f32 :=
  (accM.slice (Rect.unit (s := S8x128x768) off S1x128x768.size inb) (fun _ => rfl)).squeeze S128x768 squeezes_S1x128x768_S128x768
abbrev rsQ (off : Fin 3 → ℕ) (inb : ∀ a, off a + S1x128x768.size a ≤ S7x128x768.size a) : Memref sig .tc .vmem S128x768 .f32 :=
  (rsM.slice (Rect.unit (s := S7x128x768) off S1x128x768.size inb) (fun _ => rfl)).squeeze S128x768 squeezes_S1x128x768_S128x768

theorem accQ_set (j : Fin 8) : (accQ ![j.val, 0, 0] (accInb j)).view.set = (accM.access (accR j)).set := View.set_reshape _ _
theorem rsQ_set (s : ℕ) : (rsQ ![s % 7, 0, 0] (rsInb s)).view.set = (rsM.access (rsR s)).set := View.set_reshape _ _

/-- What one chunk's transfer credits a semaphore. -/
def N : ℕ := (accQ ![0, 0, 0] (accInb 0)).view.dmaCredit
theorem N_pos : 0 < N := View.dmaCredit_pos _ (by decide)
theorem credit_acc (j : Fin 8) : (accQ ![j.val, 0, 0] (accInb j)).view.dmaCredit = N := rfl
theorem credit_rs (s : ℕ) : (rsQ ![s % 7, 0, 0] (rsInb s)).view.dmaCredit = N := rfl

/-- What the squeezed destination reads after the transfer is what the squeezed source read: for views of the chunk's shape. -/
theorem read_transfer {d s : View sig .tc .vmem S1x128x768 .f32} (h : S128x768.numel = S1x128x768.numel)
    (fd : d.ty.Contents (Elt F)) (fs : s.ty.Contents (Elt F)) :
    d.read (Elt F) ((d.reshape S128x768 h).write (Elt F) fd ((s.reshape S128x768 h).read (Elt F) fs) Finset.univ) = s.read (Elt F) fs := by
  funext x
  obtain ⟨y, rfl⟩ := (Shape.reshapeEquiv h).surjective x
  exact View.read_write_reshape d h fd _ y

/-! ## The semaphores -/

/-- Step `s`'s send and receive semaphores (seven each of the first two arrays, then of the other two). -/
def sendSem (s : ℕ) : DmaSem sig := ⟨(if s < 7 then 6 + s else 13 + s) % 34, Nat.mod_lt _ (by decide)⟩
def recvSem (s : ℕ) : DmaSem sig := ⟨(if s < 7 then 13 + s else 20 + s) % 34, Nat.mod_lt _ (by decide)⟩
/-- Which step a semaphore is of, and whether it is a receive one. -/
def stepOf (q : DmaSem sig) : ℕ := if q.val < 13 then q.val - 6 else if q.val < 27 then q.val - 13 else q.val - 20
def isRecv (q : DmaSem sig) : Bool := (13 ≤ q.val && q.val < 20) || 27 ≤ q.val
def isSend (q : DmaSem sig) : Bool := (6 ≤ q.val && q.val < 13) || (20 ≤ q.val && q.val < 27)

theorem stepOf_send {s : ℕ} (hs : s < 14) : stepOf (sendSem s) = s := by
  have h : ∀ s : Fin 14, stepOf (sendSem s.val) = s.val := by decide
  exact h ⟨s, hs⟩
theorem stepOf_recv {s : ℕ} (hs : s < 14) : stepOf (recvSem s) = s := by
  have h : ∀ s : Fin 14, stepOf (recvSem s.val) = s.val := by decide
  exact h ⟨s, hs⟩
theorem isRecv_recv {s : ℕ} (hs : s < 14) : isRecv (recvSem s) = true := by
  have h : ∀ s : Fin 14, isRecv (recvSem s.val) = true := by decide
  exact h ⟨s, hs⟩
theorem isRecv_send {s : ℕ} (hs : s < 14) : isRecv (sendSem s) = false := by
  have h : ∀ s : Fin 14, isRecv (sendSem s.val) = false := by decide
  exact h ⟨s, hs⟩
theorem isSend_send {s : ℕ} (hs : s < 14) : isSend (sendSem s) = true := by
  have h : ∀ s : Fin 14, isSend (sendSem s.val) = true := by decide
  exact h ⟨s, hs⟩

/-- The body's own semaphores: all twenty-eight, by (step, whether receive). -/
def osem (k : Fin 14 × Bool) : SemLoc sig := .dma (if k.2 then recvSem k.1.val else sendSem k.1.val)
theorem osem_injective : Function.Injective osem := by decide

/-! ## The values -/

/-- The partial products, one array per device. -/
abbrev Partials (F : FTy → Type) [FloatOps F] : Type := Dev nD → (cc0_scratch0 : Ref sig .tc).ty.Contents (Elt F)

variable (A : Partials F)

/-- Chunk `j` of device `c`'s partial product. -/
def part (c : Dev nD) (j : Fin 8) : Vec F S1x128x768 .f32 := (accM.access (accR j)).read (Elt F) (A c)

/-- What device `c` sends at summing step `h` (and, at `h = 7`, what it ends the summing with): its own chunk at first, then
    its part of the chunk plus what came from its left. -/
def val : Dev nD → ℕ → Vec F S1x128x768 .f32
  | c, 0 => part A c c
  | c, h + 1 => k0_pay44 (part A c (back c (h + 1))) (val (left c) h)

/-- The finished chunk `j`: what the device before it ends the summing with. -/
def fin (j : Fin 8) : Vec F S1x128x768 .f32 := val A (left j) 7

theorem fin_eq (c : Dev nD) : fin A (back c 7) = val A c 7 := by
  unfold fin; rw [back_seven, left_right]

/-! ## The printed chains -/

theorem dev1 (c : Dev nD) : (⟨k0_dev1 c, k0_dev1_lt c⟩ : Dev nD) = left c := by revert c; decide +kernel
theorem dev2 (c : Dev nD) : (⟨k0_dev2 c, k0_dev2_lt c⟩ : Dev nD) = right c := by revert c; decide +kernel
theorem dev3 (c : Dev nD) : (⟨k0_dev3 c, k0_dev3_lt c⟩ : Dev nD) = right c := by revert c; decide +kernel
theorem dev4 (c : Dev nD) : (⟨k0_dev4 c, k0_dev4_lt c⟩ : Dev nD) = right c := by revert c; decide +kernel
theorem dev5 (c : Dev nD) : (⟨k0_dev5 c, k0_dev5_lt c⟩ : Dev nD) = right c := by revert c; decide +kernel
theorem dev6 (c : Dev nD) : (⟨k0_dev6 c, k0_dev6_lt c⟩ : Dev nD) = right c := by revert c; decide +kernel
theorem dev7 (c : Dev nD) : (⟨k0_dev7 c, k0_dev7_lt c⟩ : Dev nD) = right c := by revert c; decide +kernel
theorem dev8 (c : Dev nD) : (⟨k0_dev8 c, k0_dev8_lt c⟩ : Dev nD) = right c := by revert c; decide +kernel
theorem dev9 (c : Dev nD) : (⟨k0_dev9 c, k0_dev9_lt c⟩ : Dev nD) = right c := by revert c; decide +kernel
theorem dev10 (c : Dev nD) : (⟨k0_dev10 c, k0_dev10_lt c⟩ : Dev nD) = right c := by revert c; decide +kernel
theorem dev11 (c : Dev nD) : (⟨k0_dev11 c, k0_dev11_lt c⟩ : Dev nD) = right c := by revert c; decide +kernel
theorem dev12 (c : Dev nD) : (⟨k0_dev12 c, k0_dev12_lt c⟩ : Dev nD) = right c := by revert c; decide +kernel
theorem dev13 (c : Dev nD) : (⟨k0_dev13 c, k0_dev13_lt c⟩ : Dev nD) = right c := by revert c; decide +kernel
theorem dev14 (c : Dev nD) : (⟨k0_dev14 c, k0_dev14_lt c⟩ : Dev nD) = right c := by revert c; decide +kernel
theorem dev15 (c : Dev nD) : (⟨k0_dev15 c, k0_dev15_lt c⟩ : Dev nD) = right c := by revert c; decide +kernel
theorem dev16 (c : Dev nD) : (⟨k0_dev16 c, k0_dev16_lt c⟩ : Dev nD) = right c := by revert c; decide +kernel

/-- Step `r` sends chunk `c - r` and adds into chunk `c - r - 1`; -/
theorem off1 (c : Dev nD) (r : Fin 7) : k0_off1 c (BitVec.ofNat 32 r.val) = ![(back c r.val).val, 0, 0] := by
  revert c r; decide +kernel
theorem off2 (c : Dev nD) (r : Fin 7) : k0_off2 c (BitVec.ofNat 32 r.val) = ![(back c (r.val + 1)).val, 0, 0] := by
  revert c r; decide +kernel
/-- gathering step `r` passes on chunk `c + 1 - r`. -/
theorem off3 (c : Dev nD) (r : Fin 7) : k0_off3 c (BitVec.ofNat 32 r.val) = ![(back c (7 + r.val)).val, 0, 0] := by
  revert c r; decide +kernel

end Cert.KernelIdeal.Run
-- ==== Proof.Protocol.lean ====
/-
  The protocol of the ring, as a schedule of payments into semaphore cells (`Rounds`), one round each.
  * Device `c`'s barrier cell gets one unit from each neighbour. The right neighbour's unit hands `c` that neighbour's receive
    buffer and the fact that its receive cells are open; the left neighbour's hands nothing.
  * Step `s`'s receive cell of `c` is paid by the landing of the left neighbour's transfer. It hands `c` the chunk that landed, at
    its value, and the chunk's CARRY: the places on earlier devices the chunk passed through while it was being summed. The carry
    grows by the sender's own copy at each summing step and is spent, one place a step, as the gathering steps' destinations.
  * Step `s`'s send cell of `c` is paid by its own transfer's read-out: nothing at a summing step (the source goes on with the
    landing), the source back at a gathering step.
  What a device owes at launch, the levels that order the waits, and the payloads read off the schedule are here too.
-/
module

public import proofs.«01_k».proof.Proof.Ring

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's component of the resource algebra: the pipeline's cells and the ring's, whose duties are two a round. -/
abbrev UU : Type := URounds (GSem nD τ sig) Unit × URounds (GSem nD τ sig) Bool

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) Bool) (MT nD τ sig Unit (Elt F) ℕ UU ℕ) := embR

variable (A : Partials F)

/-! ## Cells and holdings -/

abbrev barCell (c : Dev nD) : GSem nD τ sig := ((c : Thread nD τ), .reg barrier0)
abbrev sendCell (c : Dev nD) (s : ℕ) : GSem nD τ sig := ((c : Thread nD τ), .dma (sendSem s))
abbrev recvCell (c : Dev nD) (s : ℕ) : GSem nD τ sig := ((c : Thread nD τ), .dma (recvSem s))

/-- Chunk `j` of device `c`'s accumulator held, reading `v`; -/
def accV (c : Dev nD) (j : Fin 8) (v : Vec F S1x128x768 .f32) : sProp 𝕄 :=
  iprop(∃ f : Buf (Elt F) ((accM.access (accR j)).loc (c : Thread nD τ)),
    ⌜(accM.access (accR j)).read (Elt F) f = v⌝ ∗ ((accM.access (accR j)).loc (c : Thread nD τ) ↦[(accM.access (accR j)).set]{fullShare} f))
/-- held at any contents. -/
def accA (c : Dev nD) (j : Fin 8) : sProp 𝕄 :=
  iprop(∃ f : Buf (Elt F) ((accM.access (accR j)).loc (c : Thread nD τ)),
    ((accM.access (accR j)).loc (c : Thread nD τ) ↦[(accM.access (accR j)).set]{fullShare} f))
/-- Slot `s` of device `c`'s receive buffer held, reading `v`; -/
def rsV (c : Dev nD) (s : ℕ) (v : Vec F S1x128x768 .f32) : sProp 𝕄 :=
  iprop(∃ f : Buf (Elt F) ((rsM.access (rsR s)).loc (c : Thread nD τ)),
    ⌜(rsM.access (rsR s)).read (Elt F) f = v⌝ ∗ ((rsM.access (rsR s)).loc (c : Thread nD τ) ↦[(rsM.access (rsR s)).set]{fullShare} f))
/-- held at any contents. -/
def rsA (c : Dev nD) (s : ℕ) : sProp 𝕄 :=
  iprop(∃ f : Buf (Elt F) ((rsM.access (rsR s)).loc (c : Thread nD τ)),
    ((rsM.access (rsR s)).loc (c : Thread nD τ) ↦[(rsM.access (rsR s)).set]{fullShare} f))

omit [FloatOps F] in
instance accV_storable (c : Dev nD) (j : Fin 8) (v : Vec F S1x128x768 .f32) : BI.Storable (upEmb : UEmb _ 𝕄) (accV (F := F) c j v) := by
  unfold accV; infer_instance
omit [FloatOps F] in
instance accA_storable (c : Dev nD) (j : Fin 8) : BI.Storable (upEmb : UEmb _ 𝕄) (accA (F := F) c j) := by
  unfold accA; infer_instance
omit [FloatOps F] in
instance rsV_storable (c : Dev nD) (s : ℕ) (v : Vec F S1x128x768 .f32) : BI.Storable (upEmb : UEmb _ 𝕄) (rsV (F := F) c s v) := by
  unfold rsV; infer_instance
omit [FloatOps F] in
instance rsA_storable (c : Dev nD) (s : ℕ) : BI.Storable (upEmb : UEmb _ 𝕄) (rsA (F := F) c s) := by
  unfold rsA; infer_instance

/-- The places chunk `j`'s carry holds before step `s`, as the number of places after `j`. -/
abbrev carrySet (s : ℕ) : Finset ℕ := Finset.Ico (s - 7) (min s 7)
/-- Chunk `j`'s carry before step `s`: the chunk's places on the devices `j + t`. -/
def carry (j : Fin 8) (s : ℕ) : sProp 𝕄 := bigSep (carrySet s) fun t => accA (F := F) (back j (16 - t)) j

omit [FloatOps F] in
instance carry_storable (j : Fin 8) (s : ℕ) : BI.Storable (upEmb : UEmb _ 𝕄) (carry (F := F) j s) := by
  unfold carry; infer_instance

/-! ## The schedule -/

/-- What the right neighbour's barrier unit hands `c`. -/
def barPay (c : Dev nD) : sProp 𝕄 :=
  iprop(bigSep (Finset.Ico 0 7) (fun s => rsA (F := F) (right c) s) ∗ bigSep (Finset.Ico 0 14) (fun s => reached ER (recvCell (right c) s) 0))
/-- What step `s`'s landing hands `c`. -/
def recvPay (c : Dev nD) (s : ℕ) : sProp 𝕄 :=
  iprop((if s < 7 then rsV c s (val A (left c) s) else accV c (back c (s + 1)) (fin A (back c (s + 1)))) ∗ carry (back c (s + 1)) (s + 1))
/-- What step `s`'s read-out hands `c`. -/
def sendPay (c : Dev nD) (s : ℕ) : sProp 𝕄 :=
  if s < 7 then iprop(emp) else accV c (back c s) (fin A (back c s))

def pay : GSem nD τ sig → Bool → sProp 𝕄
  | (t, .reg _), d => if d then iprop(emp) else barPay t.1
  | (t, .dma q), _ => if isRecv q then recvPay A t.1 (stepOf q) else sendPay A t.1 (stepOf q)

instance pay_storable (g : GSem nD τ sig) (d : Bool) : BI.Storable (upEmb : UEmb _ 𝕄) (pay A g d) := by
  rcases g with ⟨t, sm⟩
  cases sm <;> unfold pay <;> dsimp only
  · unfold barPay; split <;> infer_instance
  · unfold recvPay sendPay; (repeat' split) <;> infer_instance

/-- The duties of a cell's one round. -/
def dutiesOf : SemLoc sig → Finset Bool
  | .reg _ => Finset.univ
  | .dma q => if isRecv q || isSend q then {false} else ∅

/-- The ring's schedule. -/
def ringRd : Rounds.Schedule (GSem nD τ sig) Bool 𝕄 where
  duties g r := if r = 0 ∧ g.1.2 = .tc then dutiesOf g.2 else ∅
  unitless _ := False
  amount g _ _ := match g.2 with | .reg _ => 1 | .dma _ => N
  payload g _ d := pay A g d
  amount_pos g _ _ _ := by rcases g with ⟨t, sm⟩; cases sm; exacts [Nat.one_pos, N_pos]

instance ringRd_storable (g : GSem nD τ sig) (r : ℕ) (d : Bool) : BI.Storable (upEmb : UEmb _ 𝕄) ((ringRd A).payload g r d) :=
  pay_storable A g d

section Sched

variable (c : Dev nD) (s : ℕ)

theorem duties_bar : (ringRd A).duties (barCell c) 0 = {false, true} := by
  dsimp only [ringRd]; rw [if_pos ⟨rfl, rfl⟩]; show (Finset.univ : Finset Bool) = _; decide
theorem duties_send (hs : s < 14) : (ringRd A).duties (sendCell c s) 0 = {false} := by
  dsimp only [ringRd]; rw [if_pos ⟨rfl, rfl⟩]; unfold dutiesOf; dsimp only; rw [isSend_send hs, Bool.or_true]; rfl
theorem duties_recv (hs : s < 14) : (ringRd A).duties (recvCell c s) 0 = {false} := by
  dsimp only [ringRd]; rw [if_pos ⟨rfl, rfl⟩]; unfold dutiesOf; dsimp only; rw [isRecv_recv hs, Bool.true_or]; rfl
theorem duties_later (g : GSem nD τ sig) : ∀ r, 1 ≤ r → (ringRd A).duties g r = ∅ :=
  fun r hr => by dsimp only [ringRd]; rw [if_neg (fun h => by omega)]

theorem expect_bar : (ringRd A).expect (barCell c) 0 = 2 := by
  unfold Schedule.expect Schedule.amountOf; rw [duties_bar]; rfl
theorem expect_send (hs : s < 14) : (ringRd A).expect (sendCell c s) 0 = N := by
  unfold Schedule.expect Schedule.amountOf; rw [duties_send A c s hs, Finset.sum_singleton]; rfl
theorem expect_recv (hs : s < 14) : (ringRd A).expect (recvCell c s) 0 = N := by
  unfold Schedule.expect Schedule.amountOf; rw [duties_recv A c s hs, Finset.sum_singleton]; rfl

theorem payload_bar_left : (ringRd A).payload (barCell c) 0 false = barPay c := rfl
theorem payload_bar_right : (ringRd A).payload (barCell c) 0 true = (iprop(emp) : sProp 𝕄) := rfl
theorem payload_send (hs : s < 14) : (ringRd A).payload (sendCell c s) 0 false = sendPay A c s := by
  show (if isRecv (sendSem s) then recvPay A c (stepOf (sendSem s)) else sendPay A c (stepOf (sendSem s))) = _
  rw [isRecv_send hs, stepOf_send hs]; rfl
theorem payload_recv (hs : s < 14) : (ringRd A).payload (recvCell c s) 0 false = recvPay A c s := by
  show (if isRecv (recvSem s) then recvPay A c (stepOf (recvSem s)) else sendPay A c (stepOf (recvSem s))) = _
  rw [isRecv_recv hs, stepOf_recv hs]; rfl

theorem rest_bar : bigSep ((ringRd A).duties (barCell c) 0 \ ∅) (fun d => (ringRd A).payload (barCell c) 0 d) = (iprop(barPay c ∗ emp) : sProp 𝕄) := by
  rw [Finset.sdiff_empty, duties_bar, bigSep_insert (by decide), bigSep_singleton]; rfl
theorem rest_send (hs : s < 14) :
    bigSep ((ringRd A).duties (sendCell c s) 0 \ ∅) (fun d => (ringRd A).payload (sendCell c s) 0 d) = sendPay A c s := by
  rw [Finset.sdiff_empty, duties_send A c s hs, bigSep_singleton, payload_send A c s hs]
theorem rest_recv (hs : s < 14) :
    bigSep ((ringRd A).duties (recvCell c s) 0 \ ∅) (fun d => (ringRd A).payload (recvCell c s) 0 d) = recvPay A c s := by
  rw [Finset.sdiff_empty, duties_recv A c s hs, bigSep_singleton, payload_recv A c s hs]

end Sched

/-! ## What each device owes; the levels -/

/-- What device `c` owes before step `s`: its right neighbour's receive cells from step `s` on. -/
def Orem (c : Dev nD) (s : ℕ) : CellTallies nD τ sig Unit := ∑ t ∈ Finset.Ico s 14, tallyAt (recvCell (right c) t) () N
/-- At launch: all of them, and one unit of each neighbour's barrier cell. -/
def O₀ (c : Dev nD) : CellTallies nD τ sig Unit := (Orem c 0 + tallyAt (barCell (right c)) () 1) + tallyAt (barCell (left c)) () 1

theorem Orem_step (c : Dev nD) (s : ℕ) (hs : s < 14) : Orem c s = Orem c (s + 1) + tallyAt (recvCell (right c) s) () N := by
  unfold Orem
  have h : Finset.Ico s 14 = insert s (Finset.Ico (s + 1) 14) := by ext t; simp only [Finset.mem_Ico, Finset.mem_insert]; omega
  rw [h, Finset.sum_insert (by simp only [Finset.mem_Ico]; omega), add_comm]
theorem Orem_done (c : Dev nD) : Orem c 14 = 0 := by unfold Orem; rw [Finset.Ico_self, Finset.sum_empty]

def L (g : GSem nD τ sig) : Finset Unit := if g.1.2 = .tc then {()} else ∅
/-- Barrier cells at 1, step `s`'s receive cells at `s + 2`, the rest at 0. -/
def lv (g : GSem nD τ sig) (_ : Unit) : ℕ := match g.2 with | .reg _ => 1 | .dma q => if isRecv q then stepOf q + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) {s : ℕ} (hs : s < 14) : lv (recvCell c s) () = s + 2 := by
  show (if isRecv (recvSem s) then stepOf (recvSem s) + 2 else 0) = _
  rw [isRecv_recv hs, stepOf_recv hs]; rfl
theorem lv_send (c : Dev nD) {s : ℕ} (hs : s < 14) : lv (sendCell c s) () = 0 := by
  show (if isRecv (sendSem s) then stepOf (sendSem s) + 2 else 0) = _
  rw [isRecv_send hs]; rfl

theorem tallyAt_pos {g g' : GSem nD τ sig} {u : Unit} {k : ℕ} (h : 0 < tallyAt g () k g' u) : g' = g := by
  rw [tallyAt_apply] at h
  by_contra hne
  rw [if_neg (fun e => hne e.1)] at h
  exact absurd h (Nat.lt_irrefl 0)

/-- What is owed before step `s` sits at receive cells of step `s` or later. -/
theorem Orem_pos {c : Dev nD} {s : ℕ} {g : GSem nD τ sig} {u : Unit} (h : 0 < Orem c s g u) :
    ∃ t, s ≤ t ∧ t < 14 ∧ g = recvCell (right c) t := by
  unfold Orem at h
  rw [Finset.sum_apply, Finsupp.finset_sum_apply] at h
  obtain ⟨t, ht, hp⟩ := Finset.exists_ne_zero_of_sum_ne_zero (Nat.pos_iff_ne_zero.mp h)
  rw [Finset.mem_Ico] at ht
  exact ⟨t, ht.1, ht.2, tallyAt_pos (Nat.pos_of_ne_zero hp)⟩

/-- A cell of level at most `s + 1` may be waited on while only steps from `s` on are owed. -/
theorem mayWait (c : Dev nD) (sm : SemLoc sig) (s : ℕ) (h : lv ((c : Thread nD τ), sm) () ≤ s + 1) :
    (levAts L lv : sProp 𝕄) ⊢ MayWait (c : Thread nD τ) sm () (Orem c s) :=
  MayOwe.of_cut (L := L) (lev := lv) (s + 1) (fun p hp => by rw [Finset.mem_singleton.mp hp, L_tc]; exact Finset.mem_singleton_self _)
    (fun g u hg => by obtain ⟨t, -, -, rfl⟩ := Orem_pos hg; rw [L_tc]; exact Finset.mem_singleton_self _)
    (fun p hp => by rw [Finset.mem_singleton.mp hp]; exact h)
    (fun g u hg => by obtain ⟨t, h1, h2, rfl⟩ := Orem_pos hg; rw [lv_recv _ h2]; omega)

/-- Every cell closes after its one round. -/
theorem close (κ : ℕ) (g : GSem nD τ sig) :
    iprop(cellInv ER (ringRd A) κ g ∗ atPos ER g (0 + 1) ∅ 0) ⊢ (|={Set.univ}=> semVal g 0 : sProp 𝕄) :=
  Rounds.cell_close ER (ringRd A) (Set.mem_univ κ) id (duties_later A g)

/-! ## The carry, one step -/

omit [FloatOps F] in
theorem carry_zero (j : Fin 8) : carry (F := F) j 0 = iprop(emp) := by
  unfold carry; exact bigSep_empty
omit [FloatOps F] in
theorem carry_last (j : Fin 8) : carry (F := F) j 14 = iprop(emp) := by
  unfold carry; exact bigSep_empty

theorem back_back (c : Dev nD) (s : ℕ) (hs : s < 8) : back (back c s) (16 - s) = c := by
  have h : ∀ (c : Dev nD) (s : Fin 8), back (back c s.val) (16 - s.val) = c := by decide
  exact h c ⟨s, hs⟩
theorem back_dest (c : Dev nD) (s : ℕ) (h7 : 7 ≤ s) (hs : s < 14) : back (back c s) (16 - (s - 7)) = right c := by
  have h : ∀ (c : Dev nD) (s : Fin 14), 7 ≤ s.val → back (back c s.val) (16 - (s.val - 7)) = right c := by decide
  exact h c ⟨s, hs⟩ h7

omit [FloatOps F] in
/-- A summing step adds the sender's own place to the carry; -/
theorem carry_add (c : Dev nD) (s : ℕ) (hs : s < 7) :
    carry (F := F) (back c s) (s + 1) = iprop(accA c (back c s) ∗ carry (back c s) s) := by
  unfold carry
  have h : carrySet (s + 1) = insert s (carrySet s) := by ext t; simp only [Finset.mem_Ico, Finset.mem_insert]; omega
  rw [h, bigSep_insert (by simp only [Finset.mem_Ico]; omega), back_back c s (by omega)]; rfl
omit [FloatOps F] in
/-- a gathering step takes the receiver's place from it. -/
theorem carry_take (c : Dev nD) (s : ℕ) (h7 : 7 ≤ s) (hs : s < 14) :
    carry (F := F) (back c s) s = iprop(accA (right c) (back c s) ∗ carry (back c s) (s + 1)) := by
  unfold carry
  have h : carrySet s = insert (s - 7) (carrySet (s + 1)) := by ext t; simp only [Finset.mem_Ico, Finset.mem_insert]; omega
  rw [h, bigSep_insert (by simp only [Finset.mem_Ico]; omega), back_dest c s h7 hs]; rfl

end Cert.KernelIdeal.Run
-- ==== Proof.Steps.lean ====
/-
  The fourteen steps. `summing c s` is all that device `c` holds before summing step `s`, `gathering c s` before gathering step
  `s`; one lemma per kind of step takes the state before it to the state after it, for every device and every step.
-/
module

public import proofs.«01_k».proof.Proof.Protocol
public import Idealize.SL.BI.BigOpNat

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (A : Partials F) (K : GSem nD τ sig → ℕ)

/-! ## The state -/

/-- The invariants of one step's two cells, at the names `K`. -/
def stepInvs (c : Dev nD) (s : ℕ) : sProp 𝕄 :=
  iprop(cellInv ER (ringRd A) (K (sendCell c s)) (sendCell c s) ∗ cellInv ER (ringRd A) (K (recvCell c s)) (recvCell c s))
instance stepInvs_persistent (c : Dev nD) (s : ℕ) : BI.Persistent (stepInvs A K c s) := by unfold stepInvs; infer_instance
/-- The invariants of one device's cells. -/
def devInvs (c : Dev nD) : sProp 𝕄 :=
  iprop(cellInv ER (ringRd A) (K (barCell c)) (barCell c) ∗ bigSep (Finset.Ico 0 14) (stepInvs A K c))
/-- Every cell's invariant. -/
def invs : sProp 𝕄 := bigSep Finset.univ fun c : Dev nD => devInvs A K c

instance devInvs_persistent (c : Dev nD) : BI.Persistent (devInvs A K c) := by unfold devInvs; infer_instance
instance invs_persistent : BI.Persistent (invs A K) := by unfold invs; infer_instance

theorem invs_dev (c : Dev nD) : invs A K ⊢ devInvs A K c := bigSep_elim (Finset.mem_univ c)
theorem invs_bar (c : Dev nD) : invs A K ⊢ cellInv ER (ringRd A) (K (barCell c)) (barCell c) := by
  refine (invs_dev A K c).trans ?_
  unfold devInvs
  iintro ⟨H, -⟩
  iexact H
theorem invs_send (c : Dev nD) {s : ℕ} (hs : s < 14) : invs A K ⊢ cellInv ER (ringRd A) (K (sendCell c s)) (sendCell c s) := by
  refine (invs_dev A K c).trans ?_
  unfold devInvs
  iintro ⟨-, H⟩
  ihave H := (show (bigSep (Finset.Ico 0 14) (stepInvs A K c)) ⊢ stepInvs A K c s from bigSep_elim (Finset.mem_Ico.mpr ⟨Nat.zero_le _, hs⟩)) $$ H
  unfold stepInvs
  icases H with ⟨H, -⟩
  iexact H
theorem invs_recv (c : Dev nD) {s : ℕ} (hs : s < 14) : invs A K ⊢ cellInv ER (ringRd A) (K (recvCell c s)) (recvCell c s) := by
  refine (invs_dev A K c).trans ?_
  unfold devInvs
  iintro ⟨-, H⟩
  ihave H := (show (bigSep (Finset.Ico 0 14) (stepInvs A K c)) ⊢ stepInvs A K c s from bigSep_elim (Finset.mem_Ico.mpr ⟨Nat.zero_le _, hs⟩)) $$ H
  unfold stepInvs
  icases H with ⟨-, H⟩
  iexact H

/-- What device `c` spends at step `s`. -/
def tok (c : Dev nD) (s : ℕ) : sProp 𝕄 :=
  iprop(dutyTok ER (recvCell (right c) s) 0 false ∗ dutyTok ER (sendCell c s) 0 false
    ∗ reached ER (sendCell c s) 0 ∗ reached ER (recvCell (right c) s) 0
    ∗ atPos ER (sendCell c s) 0 ∅ 0 ∗ atPos ER (recvCell c s) 0 ∅ 0 ∗ cred (tallyAt (recvCell c s) () N))
/-- What it gets back of the step's cells: both counters, at zero. -/
def zeros (c : Dev nD) (s : ℕ) : sProp 𝕄 := iprop(semVal (sendCell c s) 0 ∗ semVal (recvCell c s) 0)

/-- The part of the state that is alike in both phases. -/
def common (c : Dev nD) (s : ℕ) : sProp 𝕄 :=
  iprop(invs A K ∗ levAts L lv ∗ (∃ W, owes (c : Thread nD τ) (Orem c s) W)
    ∗ bigSep (Finset.Ico s 14) (tok (F := F) c) ∗ bigSep (Finset.Ico 0 s) (zeros (F := F) c) ∗ carry (F := F) (back c s) s)

/-- Before summing step `s`: the chunk to send, at its running sum; the chunks not yet summed; the receive slots of the right
    neighbour still to fill, and the own ones already emptied. -/
def summing (c : Dev nD) (s : ℕ) : sProp 𝕄 :=
  iprop(common A K c s ∗ accV c (back c s) (val A c s)
    ∗ bigSep (Finset.Ico (s + 1) 8) (fun t => accV c (back c t) (part A c (back c t)))
    ∗ bigSep (Finset.Ico s 7) (fun t => rsA (F := F) (right c) t) ∗ bigSep (Finset.Ico 0 s) (fun t => rsA (F := F) c t))

/-- Before gathering step `s`: the finished chunks in hand; the own receive buffer, whole again. -/
def gathering (c : Dev nD) (s : ℕ) : sProp 𝕄 :=
  iprop(common A K c s ∗ bigSep (Finset.Ico 7 (s + 1)) (fun t => accV c (back c t) (fin A (back c t)))
    ∗ bigSep (Finset.Ico 0 7) (fun t => rsA (F := F) c t))

/-- The end of the summing is the start of the gathering. -/
theorem summing_gathering (c : Dev nD) : summing A K c 7 ⊢ gathering A K c 7 := by
  unfold summing gathering
  rw [bigSep_Ico_one, fin_eq]
  iintro ⟨Hc, Ha, -, -, Hr⟩
  isplitl [Hc]; · iexact Hc
  isplitl [Ha]; · iexact Ha
  iexact Hr

/-! ## Chunks and slots as the transfers address them -/

omit [FloatOps F] in
theorem accV_open (c : Dev nD) (j : Fin 8) (v : Vec F S1x128x768 .f32) :
    (accV (F := F) c j v) ⊢ iprop(∃ f : Buf (Elt F) ((accQ ![j.val, 0, 0] (accInb j)).view.loc (c : Thread nD τ)),
      ⌜(accM.access (accR j)).read (Elt F) f = v⌝
        ∗ ((accQ ![j.val, 0, 0] (accInb j)).view.loc (c : Thread nD τ) ↦[(accQ ![j.val, 0, 0] (accInb j)).view.set]{fullShare} f)) := by
  rw [accQ_set]; exact BI.Entails.refl _
omit [FloatOps F] in
theorem accV_intro (c : Dev nD) (j : Fin 8) (v : Vec F S1x128x768 .f32) (f : Buf (Elt F) ((accQ ![j.val, 0, 0] (accInb j)).view.loc (c : Thread nD τ)))
    (h : (accM.access (accR j)).read (Elt F) f = v) :
    ((accQ ![j.val, 0, 0] (accInb j)).view.loc (c : Thread nD τ) ↦[(accQ ![j.val, 0, 0] (accInb j)).view.set]{fullShare} f) ⊢ accV (F := F) c j v := by
  rw [accQ_set]; unfold accV
  iintro H; iexists f; isplitr; · ipureintro; exact h
  iexact H
omit [FloatOps F] in
theorem accA_open (c : Dev nD) (j : Fin 8) :
    (accA (F := F) c j) ⊢ iprop(∃ f : Buf (Elt F) ((accQ ![j.val, 0, 0] (accInb j)).view.loc (c : Thread nD τ)),
        ((accQ ![j.val, 0, 0] (accInb j)).view.loc (c : Thread nD τ) ↦[(accQ ![j.val, 0, 0] (accInb j)).view.set]{fullShare} f)) := by
  rw [accQ_set]; exact BI.Entails.refl _
omit [FloatOps F] in
theorem accA_intro (c : Dev nD) (j : Fin 8) (f : Buf (Elt F) ((accQ ![j.val, 0, 0] (accInb j)).view.loc (c : Thread nD τ))) :
    ((accQ ![j.val, 0, 0] (accInb j)).view.loc (c : Thread nD τ) ↦[(accQ ![j.val, 0, 0] (accInb j)).view.set]{fullShare} f) ⊢ accA (F := F) c j := by
  rw [accQ_set]; unfold accA
  iintro H; iexists f; iexact H
omit [FloatOps F] in
theorem rsA_open (c : Dev nD) (s : ℕ) :
    (rsA (F := F) c s) ⊢ iprop(∃ f : Buf (Elt F) ((rsQ ![s % 7, 0, 0] (rsInb s)).view.loc (c : Thread nD τ)),
        ((rsQ ![s % 7, 0, 0] (rsInb s)).view.loc (c : Thread nD τ) ↦[(rsQ ![s % 7, 0, 0] (rsInb s)).view.set]{fullShare} f)) := by
  rw [rsQ_set]; exact BI.Entails.refl _
omit [FloatOps F] in
theorem rsV_intro (c : Dev nD) (s : ℕ) (v : Vec F S1x128x768 .f32) (f : Buf (Elt F) ((rsQ ![s % 7, 0, 0] (rsInb s)).view.loc (c : Thread nD τ)))
    (h : (rsM.access (rsR s)).read (Elt F) f = v) :
    ((rsQ ![s % 7, 0, 0] (rsInb s)).view.loc (c : Thread nD τ) ↦[(rsQ ![s % 7, 0, 0] (rsInb s)).view.set]{fullShare} f) ⊢ rsV (F := F) c s v := by
  rw [rsQ_set]; unfold rsV
  iintro H; iexists f; isplitr; · ipureintro; exact h
  iexact H

/-! ## What a landing hands over -/

/-- A summing step's landing, with the sender's carry and the sender's own copy, is the receive cell's payload. -/
theorem land_sum (c : Dev nD) (s : ℕ) (hs : s < 7)
    (fd : Buf (Elt F) ((rsQ ![s % 7, 0, 0] (rsInb s)).view.loc (right c : Thread nD τ)))
    (fs : Buf (Elt F) ((accQ ![(back c s).val, 0, 0] (accInb (back c s))).view.loc (c : Thread nD τ)))
    (h : (accM.access (accR (back c s))).read (Elt F) fs = val A c s) :
    iprop((((rsQ ![s % 7, 0, 0] (rsInb s)).view.loc (right c : Thread nD τ) ↦[(rsQ ![s % 7, 0, 0] (rsInb s)).view.set]{fullShare}
          ((rsQ ![s % 7, 0, 0] (rsInb s)).view.write (Elt F) fd ((accQ ![(back c s).val, 0, 0] (accInb (back c s))).view.read (Elt F) fs) Finset.univ))
        ∗ carry (F := F) (back c s) s)
        ∗ ((accQ ![(back c s).val, 0, 0] (accInb (back c s))).view.loc (c : Thread nD τ)
          ↦[(accQ ![(back c s).val, 0, 0] (accInb (back c s))).view.set]{fullShare} fs))
      ⊢ (ringRd A).payload (recvCell (right c) s) 0 false := by
  rw [payload_recv A (right c) s (by omega)]
  unfold recvPay
  rw [if_pos hs, left_right, back_right c s (by omega), carry_add c s hs]
  iintro ⟨⟨Hd, Hc⟩, Hs⟩
  isplitl [Hd]
  · iapply (rsV_intro (right c) s (val A c s) _ ?_) $$ Hd
    rw [← h]
    exact read_transfer (d := rsM.access (rsR s)) (s := accM.access (accR (back c s))) _ fd fs
  isplitl [Hs]
  · iapply (accA_intro c (back c s) fs) $$ Hs
  iexact Hc

/-- A gathering step's landing, with the rest of the carry, is the receive cell's payload. -/
theorem land_gather (c : Dev nD) (s : ℕ) (h7 : 7 ≤ s) (hs : s < 14)
    (fd : Buf (Elt F) ((accQ ![(back c s).val, 0, 0] (accInb (back c s))).view.loc (right c : Thread nD τ)))
    (fs : Buf (Elt F) ((accQ ![(back c s).val, 0, 0] (accInb (back c s))).view.loc (c : Thread nD τ)))
    (h : (accM.access (accR (back c s))).read (Elt F) fs = fin A (back c s)) :
    iprop(((accQ ![(back c s).val, 0, 0] (accInb (back c s))).view.loc (right c : Thread nD τ)
          ↦[(accQ ![(back c s).val, 0, 0] (accInb (back c s))).view.set]{fullShare}
          ((accQ ![(back c s).val, 0, 0] (accInb (back c s))).view.write (Elt F) fd
            ((accQ ![(back c s).val, 0, 0] (accInb (back c s))).view.read (Elt F) fs) Finset.univ))
        ∗ carry (F := F) (back c s) (s + 1))
      ⊢ (ringRd A).payload (recvCell (right c) s) 0 false := by
  rw [payload_recv A (right c) s hs]
  unfold recvPay
  rw [if_neg (by omega), back_right c s hs]
  iintro ⟨Hd, Hc⟩
  isplitl [Hd]
  · iapply (accV_intro (right c) (back c s) (fin A (back c s)) _ ?_) $$ Hd
    rw [← h]
    exact read_transfer (d := accM.access (accR (back c s))) (s := accM.access (accR (back c s))) _ fd fs
  iexact Hc

/-! ## The waits -/

/-- The wait for a step's own read-out: the send cell's payload, and the counter at zero. -/
theorem wait_send (c : Dev nD) (s : ℕ) (hs : s < 14) (o : ℕ) {κ : Kind} {sp sp' : Space} {s₁ s₂ : Shape} {e₁ e₂ : EltTy}
    {src : Memref sig (c : Thread nD τ).2.kind sp' s₁ e₁} {dst : Memref sig κ sp s₂ e₂} {hsrc : src.view.WordExact} {hdst : dst.view.WordExact}
    (hN : dst.view.dmaCredit = N) {α : Type} (k : PUnit → Prog (TpuEff nD τ sig (Elt F) Λ₀ .tc) α) (Q : α → sProp 𝕄) :
    iprop(invs A K ∗ levAts L lv ∗ (∃ W, owes (c : Thread nD τ) (Orem c o) W) ∗ cred (tallyAt (sendCell c s) () N)
        ∗ atPos ER (sendCell c s) 0 ∅ 0)
      ⊢ iprop((((∃ W, owes (c : Thread nD τ) (Orem c o) W) ∗ semVal (sendCell c s) 0 ∗ sendPay A c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem s) src dst hsrc hdst) k) Q) := by
  iintro ⟨#HI, #Hlev, ⟨%W, HO⟩, Hcr, Hat⟩ Hk
  ihave #HIs := (invs_send A K c hs) $$ HI
  iapply (Rounds.wp_wait_rest_token 𝒱₀ ER (ringRd A) (c : Thread nD τ) none (κ := K (sendCell c s))
      (wpE_waitDma2_eq (src := src) (dst := dst) 𝒱₀ (c : Thread nD τ) none Set.univ) (Set.mem_univ _) () (O := Orem c o) (W := W) (R := 0) (m := 0) (T := ∅)
      (by rw [hN, expect_send A c s hs, Nat.zero_add])) $$ [Hcr HO Hat]
  · isplitr; · iexact HIs
    isplitl [Hcr]; · rw [hN]; iexact Hcr
    isplitl [HO]; · iexact HO
    isplitr; · iapply (mayWait c _ o (by rw [lv_send c hs]; omega)); iexact Hlev
    iexact Hat
  iintro ⟨HO, Hat, -, Hp⟩
  ihave Hp := (Entails.of_eq (rest_send A c s hs)) $$ Hp
  imod (close A (K (sendCell c s)) (sendCell c s)) $$ [Hat] with Hz
  · isplitr; · iexact HIs
    iexact Hat
  iapply Hk
  isplitl [HO]; · iexists _; iexact HO
  isplitl [Hz]; · iexact Hz
  iexact Hp

/-- The wait for the left neighbour's landing, while only later steps are owed. -/
theorem wait_recv (c : Dev nD) (s : ℕ) (hs : s < 14) {κ : Kind} {sp sp' : Space} {s₁ s₂ : Shape} {e₁ e₂ : EltTy}
    {src : Memref sig (c : Thread nD τ).2.kind sp' s₁ e₁} {dst : Memref sig κ sp s₂ e₂} {hsrc : src.view.WordExact} {hdst : dst.view.WordExact}
    (hN : dst.view.dmaCredit = N) {α : Type} (k : PUnit → Prog (TpuEff nD τ sig (Elt F) Λ₀ .tc) α) (Q : α → sProp 𝕄) :
    iprop(invs A K ∗ levAts L lv ∗ (∃ W, owes (c : Thread nD τ) (Orem c (s + 1)) W) ∗ cred (tallyAt (recvCell c s) () N)
        ∗ atPos ER (recvCell c s) 0 ∅ 0)
      ⊢ iprop((((∃ W, owes (c : Thread nD τ) (Orem c (s + 1)) W) ∗ semVal (recvCell c s) 0 ∗ recvPay A c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvSem s) src dst hsrc hdst) k) Q) := by
  iintro ⟨#HI, #Hlev, ⟨%W, HO⟩, Hcr, Hat⟩ Hk
  ihave #HIs := (invs_recv A K c hs) $$ HI
  iapply (Rounds.wp_wait_rest_token 𝒱₀ ER (ringRd A) (c : Thread nD τ) none (κ := K (recvCell c s))
      (wpE_waitDma2_eq (src := src) (dst := dst) 𝒱₀ (c : Thread nD τ) none Set.univ) (Set.mem_univ _) () (O := Orem c (s + 1)) (W := W) (R := 0) (m := 0) (T := ∅)
      (by rw [hN, expect_recv A c s hs, Nat.zero_add])) $$ [Hcr HO Hat]
  · isplitr; · iexact HIs
    isplitl [Hcr]; · rw [hN]; iexact Hcr
    isplitl [HO]; · iexact HO
    isplitr; · iapply (mayWait c _ (s + 1) (by rw [lv_recv c hs])); iexact Hlev
    iexact Hat
  iintro ⟨HO, Hat, -, Hp⟩
  ihave Hp := (Entails.of_eq (rest_recv A c s hs)) $$ Hp
  imod (close A (K (recvCell c s)) (recvCell c s)) $$ [Hat] with Hz
  · isplitr; · iexact HIs
    iexact Hat
  iapply Hk
  isplitl [HO]; · iexists _; iexact HO
  isplitl [Hz]; · iexact Hz
  iexact Hp

/-! ## The steps -/

/-- A summing step: send the chunk in hand, wait for both ends, and add the own share of the chunk received. -/
theorem step_sum (c : Dev nD) (s : ℕ) (hs : s < 7) {o₁ o₂ o₃ : Fin 3 → ℕ}
    {i₁ : ∀ k, o₁ k + S1x128x768.size k ≤ S8x128x768.size k} {i₂ : ∀ k, o₂ k + S1x128x768.size k ≤ S8x128x768.size k}
    {i₃ : ∀ k, o₃ k + S1x128x768.size k ≤ S7x128x768.size k}
    (h₁ : o₁ = ![(back c s).val, 0, 0]) (h₂ : o₂ = ![(back c (s + 1)).val, 0, 0]) (h₃ : o₃ = ![s % 7, 0, 0])
    {dev : Dev nD} (hdev : dev = right c) {qS qR : DmaSem sig} (hqS : qS = sendSem s) (hqR : qR = recvSem s)
    {hsrc hsrc' hsrc'' hdst hdst' hdst'' hsem hl₁ hl₂ hl₃ hst hm}
    {α : Type} (k : PUnit → Prog (TpuEff nD τ sig (Elt F) Λ₀ .tc) α) (Q : α → sProp 𝕄) :
    summing A K c s
      ⊢ iprop((summing A K c (s + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (accQ o₁ i₁) (.remote (Dev.tc dev) (rsQ o₃ i₃) (.dma qS)) (.dma qR) hsrc hdst hsem) fun _ =>
              .op (.waitDma2 qS (rsQ o₃ i₃) (accQ o₁ i₁) hsrc' hdst') fun _ =>
              .op (.waitDma2 qR (accQ o₁ i₁) (rsQ o₃ i₃) hsrc'' hdst'') fun _ =>
              .op (.load accM (Rect.unit (s := S8x128x768) o₂ S1x128x768.size i₂).toLoadRect hl₁) fun v =>
              .op (.load rsM (Rect.unit (s := S7x128x768) o₃ S1x128x768.size i₃).toLoadRect hl₂) fun w =>
              .op (.load accM (Rect.unit (s := S8x128x768) o₂ S1x128x768.size i₂).toLoadRect hl₃) fun _ =>
              .op (.store accM (Rect.unit (s := S8x128x768) o₂ S1x128x768.size i₂) (k0_pay44 v w) Finset.univ hst hm) k) Q) := by
  subst h₁ h₂ h₃ hdev hqS hqR
  have h14 : s < 14 := by omega
  conv_lhs => unfold summing common
  rw [bigSep_Ico_succ_bot h14 (tok (F := F) c), bigSep_Ico_succ_bot (show s + 1 < 8 by omega),
    bigSep_Ico_succ_bot hs (fun t => rsA (F := F) (right c) t)]
  iintro ⟨⟨#HI, #Hlev, ⟨%W, HO⟩, ⟨Ht, Hts⟩, Hz, Hc⟩, Ha, ⟨Hb, Hbs⟩, ⟨Hd, Hds⟩, Hrs⟩ Hk
  unfold tok
  icases Ht with ⟨Htr, Hts', #Hrs', #Hrr, Has, Har, Hcr⟩
  ihave Ha := (accV_open c (back c s) (val A c s)) $$ Ha
  icases Ha with ⟨%fs, %hfs, Ha⟩
  ihave Hd := (rsA_open (right c) s) $$ Hd
  icases Hd with ⟨%fd, Hd⟩
  ihave #HIs := (invs_send A K c h14) $$ HI
  ihave #HIr := (invs_recv A K (right c) h14) $$ HI
  iapply (Rounds.wp_send_landing_pointsTo_with 𝒱₀ ER (ringRd A) (c : Thread nD τ) none (c' := (Dev.tc (right c) : Thread nD τ))
      (src := accQ ![(back c s).val, 0, 0] i₁) (dst := rsQ ![s % 7, 0, 0] i₃) (sS := .dma (sendSem s)) (sem := .dma (recvSem s)) (q := fullShare)
      (fs := fs) (fd := fd) (F := carry (F := F) (back c s) s)
      (κ₁ := K (sendCell c s)) (κ₂ := K (recvCell (right c) s)) (r₁ := 0) (r₂ := 0) (d₁ := false) (d₂ := false)
      (by rw [duties_send A c s h14]; exact Finset.mem_singleton_self _)
      (by rw [duties_recv A (right c) s h14]; exact Finset.mem_singleton_self _) () () N
      (credit_rs s) rfl rfl (Orem c (s + 1)) (Orem_step c s h14) (W := W)
      (by rw [payload_send A c s h14]; unfold sendPay; rw [if_pos hs])
      (land_sum A c s hs fd fs hfs)) $$ [Ha Hd Hc HO Hts' Htr]
  · isplitr; · iexact HIs
    isplitr; · iexact HIr
    isplitl [Ha]; · iexact Ha
    isplitl [Hd Hc]
    · isplitl [Hd]; · iexact Hd
      iexact Hc
    isplitl [HO]; · iexact HO
    isplitl [Hts']; · iexact Hts'
    isplitr; · iexact Hrs'
    isplitl [Htr]; · iexact Htr
    iexact Hrr
  iintro ⟨Hcs, HO⟩
  iapply (wait_send A K c s h14 (s + 1) (credit_acc _)) $$ [HO Hcs Has]
  · isplitr; · iexact HI
    isplitr; · iexact Hlev
    isplitl [HO]; · iexists W; iexact HO
    isplitl [Hcs]; · iexact Hcs
    iexact Has
  iintro ⟨HO, Hzs, -⟩
  iapply (wait_recv A K c s h14 (credit_rs s)) $$ [HO Hcr Har]
  · isplitr; · iexact HI
    isplitr; · iexact Hlev
    isplitl [HO]; · iexact HO
    isplitl [Hcr]; · iexact Hcr
    iexact Har
  unfold recvPay
  rw [if_pos hs]
  iintro ⟨HO, Hzr, ⟨Hv, Hc⟩⟩
  unfold rsV accV
  icases Hv with ⟨%fv, %hfv, Hv⟩
  icases Hb with ⟨%fb, %hfb, Hb⟩
  iapply (wp_load_rect 𝒱₀ (c : Thread nD τ) none Set.univ (m := accM) (r := accR (back c (s + 1))) (S := (accM.access (accR (back c (s + 1)))).set) (f := fb) (q := fullShare) (Finset.Subset.refl _)) $$ [Hb]
  · iexact Hb
  iintro Hb
  iapply (wp_load_rect 𝒱₀ (c : Thread nD τ) none Set.univ (m := rsM) (r := rsR s) (S := (rsM.access (rsR s)).set) (f := fv) (q := fullShare) (Finset.Subset.refl _)) $$ [Hv]
  · iexact Hv
  iintro Hv
  iapply (wp_load_rect 𝒱₀ (c : Thread nD τ) none Set.univ (m := accM) (r := accR (back c (s + 1))) (S := (accM.access (accR (back c (s + 1)))).set) (f := fb) (q := fullShare) (Finset.Subset.refl _)) $$ [Hb]
  · iexact Hb
  iintro Hb
  iapply (wp_store 𝒱₀ (c : Thread nD τ) none Set.univ (m := accM) (r := accR (back c (s + 1))) (S := (accM.access (accR (back c (s + 1)))).set) (f := fb) (Finset.Subset.refl _)) $$ [Hb]
  · iexact Hb
  iintro Hb
  iapply Hk
  unfold summing common
  rw [bigSep_Ico_succ_top (Nat.zero_le s) (zeros (F := F) c), bigSep_Ico_succ_top (Nat.zero_le s) (fun t => rsA (F := F) c t)]
  isplitl [HO Hts Hz Hzs Hzr Hc]
  · isplitr; · iexact HI
    isplitr; · iexact Hlev
    isplitl [HO]; · iexact HO
    isplitl [Hts]; · iexact Hts
    isplitl [Hz Hzs Hzr]
    · isplitl [Hzs Hzr]
      · unfold zeros
        isplitl [Hzs]; · iexact Hzs
        iexact Hzr
      iexact Hz
    iexact Hc
  isplitl [Hb]
  · unfold accV
    iexists _
    isplitr; rotate_left; · iexact Hb
    ipureintro
    exact (View.read_write_univ _ _).trans (congrArg₂ k0_pay44 hfb hfv)
  isplitl [Hbs]; · iexact Hbs
  isplitl [Hds]; · iexact Hds
  isplitl [Hv]
  · unfold rsA
    iexists _; iexact Hv
  iexact Hrs

/-- A gathering step: copy the chunk last received on to the right neighbour, and wait for both ends. -/
theorem step_gather (c : Dev nD) (s : ℕ) (h7 : 7 ≤ s) (h14 : s < 14) {o₁ : Fin 3 → ℕ}
    {i₁ : ∀ k, o₁ k + S1x128x768.size k ≤ S8x128x768.size k} (h₁ : o₁ = ![(back c s).val, 0, 0])
    {dev : Dev nD} (hdev : dev = right c) {qS qR : DmaSem sig} (hqS : qS = sendSem s) (hqR : qR = recvSem s)
    {hsrc hsrc' hsrc'' hdst hdst' hdst'' hsem}
    {α : Type} (k : PUnit → Prog (TpuEff nD τ sig (Elt F) Λ₀ .tc) α) (Q : α → sProp 𝕄) :
    gathering A K c s
      ⊢ iprop((gathering A K c (s + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (accQ o₁ i₁) (.remote (Dev.tc dev) (accQ o₁ i₁) (.dma qS)) (.dma qR) hsrc hdst hsem) fun _ =>
              .op (.waitDma2 qS (accQ o₁ i₁) (accQ o₁ i₁) hsrc' hdst') fun _ =>
              .op (.waitDma2 qR (accQ o₁ i₁) (accQ o₁ i₁) hsrc'' hdst'') k) Q) := by
  subst h₁ hdev hqS hqR
  conv_lhs => unfold gathering common
  rw [bigSep_Ico_succ_bot h14 (tok (F := F) c), bigSep_Ico_succ_top h7, carry_take c s h7 h14]
  iintro ⟨⟨#HI, #Hlev, ⟨%W, HO⟩, ⟨Ht, Hts⟩, Hz, ⟨Hd, Hc⟩⟩, ⟨Ha, Has'⟩, Hrs⟩ Hk
  unfold tok
  icases Ht with ⟨Htr, Hts', #Hrs', #Hrr, Has, Har, Hcr⟩
  ihave Ha := (accV_open c (back c s) (fin A (back c s))) $$ Ha
  icases Ha with ⟨%fs, %hfs, Ha⟩
  ihave Hd := (accA_open (right c) (back c s)) $$ Hd
  icases Hd with ⟨%fd, Hd⟩
  ihave #HIs := (invs_send A K c h14) $$ HI
  ihave #HIr := (invs_recv A K (right c) h14) $$ HI
  iapply (Rounds.wp_send_pointsTo_with 𝒱₀ ER (ringRd A) (c : Thread nD τ) none (c' := (Dev.tc (right c) : Thread nD τ))
      (src := accQ ![(back c s).val, 0, 0] i₁) (dst := accQ ![(back c s).val, 0, 0] i₁) (sS := .dma (sendSem s)) (sem := .dma (recvSem s)) (q := fullShare)
      (fs := fs) (fd := fd) (F := carry (F := F) (back c s) (s + 1))
      (κ₁ := K (sendCell c s)) (κ₂ := K (recvCell (right c) s)) (r₁ := 0) (r₂ := 0) (d₁ := false) (d₂ := false)
      (by rw [duties_send A c s h14]; exact Finset.mem_singleton_self _)
      (by rw [duties_recv A (right c) s h14]; exact Finset.mem_singleton_self _) () () N
      (credit_acc _) rfl rfl (Orem c (s + 1)) (Orem_step c s h14) (W := W)
      (by rw [payload_send A c s h14]; unfold sendPay; rw [if_neg (by omega)]; exact accV_intro c (back c s) _ fs hfs)
      (land_gather A c s h7 h14 fd fs hfs)) $$ [Ha Hd Hc HO Hts' Htr]
  · isplitr; · iexact HIs
    isplitr; · iexact HIr
    isplitl [Ha]; · iexact Ha
    isplitl [Hd Hc]
    · isplitl [Hd]; · iexact Hd
      iexact Hc
    isplitl [HO]; · iexact HO
    isplitl [Hts']; · iexact Hts'
    isplitr; · iexact Hrs'
    isplitl [Htr]; · iexact Htr
    iexact Hrr
  iintro ⟨Hcs, HO⟩
  iapply (wait_send A K c s h14 (s + 1) (credit_acc _)) $$ [HO Hcs Has]
  · isplitr; · iexact HI
    isplitr; · iexact Hlev
    isplitl [HO]; · iexists W; iexact HO
    isplitl [Hcs]; · iexact Hcs
    iexact Has
  unfold sendPay
  rw [if_neg (show ¬ s < 7 by omega)]
  iintro ⟨HO, Hzs, Ha⟩
  iapply (wait_recv A K c s h14 (credit_acc _)) $$ [HO Hcr Har]
  · isplitr; · iexact HI
    isplitr; · iexact Hlev
    isplitl [HO]; · iexact HO
    isplitl [Hcr]; · iexact Hcr
    iexact Har
  unfold recvPay
  rw [if_neg (show ¬ s < 7 by omega)]
  iintro ⟨HO, Hzr, ⟨Hv, Hc⟩⟩
  iapply Hk
  unfold gathering common
  rw [bigSep_Ico_succ_top (Nat.zero_le s) (zeros (F := F) c), bigSep_Ico_succ_top (show 7 ≤ s + 1 by omega), bigSep_Ico_succ_top h7]
  isplitl [HO Hts Hz Hzs Hzr Hc]
  · isplitr; · iexact HI
    isplitr; · iexact Hlev
    isplitl [HO]; · iexact HO
    isplitl [Hts]; · iexact Hts
    isplitl [Hz Hzs Hzr]
    · isplitl [Hzs Hzr]
      · unfold zeros
        isplitl [Hzs]; · iexact Hzs
        iexact Hzr
      iexact Hz
    iexact Hc
  isplitl [Hv Ha Has']
  · isplitl [Hv]; · iexact Hv
    isplitl [Ha]; · iexact Ha
    iexact Has'
  iexact Hrs

end Cert.KernelIdeal.Run
-- ==== Proof.Barrier.lean ====
/-
  The start of the ring: what a device holds when it has its partial product, and the two signals and the wait that let it into
  the ring. After the wait the right neighbour's receive buffer is this device's to write.
-/
module

public import proofs.«01_k».proof.Proof.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Partials F) (K : GSem nD τ sig → ℕ)

/-- A device's own holdings for step `s`, its receive cell's opening apart. -/
def held (c : Dev nD) (s : ℕ) : sProp 𝕄 :=
  iprop(dutyTok ER (recvCell (right c) s) 0 false ∗ dutyTok ER (sendCell c s) 0 false ∗ reached ER (sendCell c s) 0
    ∗ atPos ER (sendCell c s) 0 ∅ 0 ∗ atPos ER (recvCell c s) 0 ∅ 0 ∗ cred (tallyAt (recvCell c s) () N))

omit [FloatOps F] in
/-- With the right neighbour's cells open, they are what the steps spend. -/
theorem held_tok (c : Dev nD) : iprop(bigSep (Finset.Ico 0 14) (held (F := F) c) ∗ bigSep (Finset.Ico 0 14) (fun s => reached ER (recvCell (right c) s) 0))
    ⊢ bigSep (Finset.Ico 0 14) (tok (F := F) c) := by
  rw [← bigSep_sep']
  refine bigSep_mono fun s _ => (?_ : (_ : sProp 𝕄) ⊢ _)
  unfold held tok
  iintro ⟨⟨H1, H2, H3, H4, H5, H6⟩, H7⟩
  isplitl [H1]; · iexact H1
  isplitl [H2]; · iexact H2
  isplitl [H3]; · iexact H3
  isplitl [H7]; · iexact H7
  isplitl [H4]; · iexact H4
  isplitl [H5]; · iexact H5
  iexact H6

/-- What a device brings to the barrier, its two buffers apart. -/
def ready (c : Dev nD) : sProp 𝕄 :=
  iprop(invs A K ∗ levAts L lv ∗ (∃ W, owes (c : Thread nD τ) (O₀ c) W)
    ∗ (dutyTok ER (barCell (left c)) 0 false ∗ reached ER (barCell (left c)) 0)
    ∗ (dutyTok ER (barCell (right c)) 0 true ∗ reached ER (barCell (right c)) 0)
    ∗ (atPos ER (barCell c) 0 ∅ 0 ∗ cred (tallyAt (barCell c) () 2))
    ∗ bigSep (Finset.Ico 0 14) (held (F := F) c) ∗ bigSep (Finset.Ico 0 14) (fun s => reached ER (recvCell c s) 0))

/-- The two signals and the wait. -/
theorem enter (c : Dev nD) {dl dr : Dev nD} (hl : dl = left c) (hr : dr = right c) {n₁ n₂ n₃ : ℤ} (h₁ : n₁ = 1) (h₂ : n₂ = 1) (h₃ : n₃ = 2)
    {α : Type} (k : PUnit → Prog (TpuEff nD τ sig (Elt F) Λ₀ .tc) α) (Q : α → sProp 𝕄) :
    iprop(ready A K c ∗ bigSep (Finset.Ico 0 8) (fun t => accV c (back c t) (part A c (back c t))) ∗ bigSep (Finset.Ico 0 7) (rsA (F := F) c))
      ⊢ iprop(((semVal (barCell c) 0 ∗ summing A K c 0) -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (Dev.tc dl) barrier0 n₁) fun _ => .op (.semSignal (Dev.tc dr) barrier0 n₂) fun _ => .op (.semWait barrier0 n₃) k) Q) := by
  subst hl hr h₁ h₂ h₃
  unfold ready
  iintro ⟨⟨#HI, #Hlev, ⟨%W, HO⟩, ⟨Htl, #Hrl⟩, ⟨Htr, #Hrr⟩, ⟨Hat, Hcr⟩, Hheld, Hopen⟩, Hacc, Hrs⟩ Hk
  ihave #HIl := (invs_bar A K (left c)) $$ HI
  ihave #HIr := (invs_bar A K (right c)) $$ HI
  ihave #HIc := (invs_bar A K c) $$ HI
  unfold O₀
  iapply (Rounds.wp_signal 𝒱₀ ER (ringRd A) (c : Thread nD τ) none (dst := (left c : Thread nD τ)) (r := 0) (d := false) (κ := K (barCell (left c)))
      (by rw [duties_bar]; decide) ((rfl : (ringRd A).amount (barCell (left c)) 0 false = 1).trans rfl) ()
      (Orem c 0 + tallyAt (barCell (right c)) () 1) rfl) $$ [HO Htl Hrs Hopen]
  · isplitr; · iexact HIl
    isplitl [HO]; · iexact HO
    isplitl [Htl]; · iexact Htl
    isplitl [Hrs Hopen]
    · rw [payload_bar_left]; unfold barPay; rw [right_left]
      isplitl [Hrs]; · iexact Hrs
      iexact Hopen
    iexact Hrl
  iintro HO
  iapply (Rounds.wp_signal 𝒱₀ ER (ringRd A) (c : Thread nD τ) none (dst := (right c : Thread nD τ)) (r := 0) (d := true) (κ := K (barCell (right c)))
      (by rw [duties_bar]; decide) ((rfl : (ringRd A).amount (barCell (right c)) 0 true = 1).trans rfl) ()
      (Orem c 0) rfl) $$ [HO Htr]
  · isplitr; · iexact HIr
    isplitl [HO]; · iexact HO
    isplitl [Htr]; · iexact Htr
    isplitr
    · rw [payload_bar_right]; iempintro
    iexact Hrr
  iintro HO
  iapply (Rounds.wp_wait_rest_token 𝒱₀ ER (ringRd A) (c : Thread nD τ) none (κ := K (barCell c))
      (wpE_semWait_eq 𝒱₀ (c : Thread nD τ) none Set.univ) (Set.mem_univ _) () (O := Orem c 0) (W := W) (R := 0) (m := 0) (T := ∅)
      (by rw [expect_bar])) $$ [Hcr HO Hat]
  · isplitr; · iexact HIc
    isplitl [Hcr]; · iexact Hcr
    isplitl [HO]; · iexact HO
    isplitr; · iapply (mayWait c (.reg barrier0) 0 (Nat.le_refl 1)); iexact Hlev
    iexact Hat
  iintro ⟨HO, Hat, -, Hp⟩
  ihave Hp := (Entails.of_eq (rest_bar A c)) $$ Hp
  unfold barPay
  icases Hp with ⟨⟨Hrs, Hopen⟩, -⟩
  imod (close A (K (barCell c)) (barCell c)) $$ [Hat] with Hz
  · isplitr; · iexact HIc
    iexact Hat
  iapply Hk
  isplitl [Hz]; · iexact Hz
  unfold summing common
  rw [carry_zero, Finset.Ico_self, bigSep_empty, bigSep_empty]
  ihave Hacc := (Entails.of_eq (bigSep_Ico_succ_bot (show 0 < 8 by decide) (fun t => accV (F := F) c (back c t) (part A c (back c t))))) $$ Hacc
  icases Hacc with ⟨Ha, Hacc⟩
  ihave Ha := (Entails.of_eq (show accV (F := F) c (back c 0) (part A c (back c 0)) = accV c (back c 0) (val A c 0) by rw [back_zero]; rfl)) $$ Ha
  isplitl [HO Hheld Hopen]
  · isplitr; · iexact HI
    isplitr; · iexact Hlev
    isplitl [HO]; · iexists _; iexact HO
    isplitl [Hheld Hopen]
    · iapply (held_tok c)
      isplitl [Hheld]; · iexact Hheld
      iexact Hopen
    isplitr <;> iempintro
  isplitl [Ha]; · iexact Ha
  isplitl [Hacc]; · iexact Hacc
  isplitl [Hrs]; · iexact Hrs
  iempintro

end Cert.KernelIdeal.Run
-- ==== Proof.Buffers.lean ====
/-
  The accumulator and the receive buffer, cut into the chunks and slots the protocol deals in and put together again.
-/
module

public import proofs.«01_k».proof.Proof.Protocol
public import Idealize.SL.BI.BigOpNat

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Partials F)

/-- The buffers, whole, on device `c`. -/
abbrev accLoc (c : Dev nD) : Loc nD τ sig := accM.view.loc (c : Thread nD τ)
abbrev rsLoc (c : Dev nD) : Loc nD τ sig := rsM.view.loc (c : Thread nD τ)

/-- A chunk's, a slot's elements. -/
abbrev accSet (j : Fin 8) : Finset (accM.view.ty.Idx) := (accM.access (accR j)).set
abbrev rsSet (s : ℕ) : Finset (rsM.view.ty.Idx) := (rsM.access (rsR s)).set

theorem acc_disjoint (j j' : Fin 8) (h : j ≠ j') : Disjoint (accSet j) (accSet j') :=
  View.disjoint_slice (v := accM.view) (Ring.lead_disjoint (s := S8x128x768) (a₀ := 0) (R := 1) (fun j : Fin 8 => ![j.val, 0, 0]) S1x128x768.size accInb
    (fun b => (Nat.one_mul _).symm) rfl j j' h)
theorem acc_cover : Finset.univ.biUnion accSet = Finset.univ := by
  have h := Ring.lead_cover (s := S8x128x768) (a₀ := 0) (R := 1) (fun j : Fin 8 => ![j.val, 0, 0]) S1x128x768.size accInb
    (fun b => (Nat.one_mul _).symm) (by decide) rfl (by decide) rfl
  refine Eq.trans (Finset.biUnion_congr rfl fun j _ => ?_) h
  exact (View.set_slice accM.view (accR j)).trans (Finset.map_refl)
theorem rsInb' (s : Fin 7) : ∀ a, (![s.val, 0, 0] : Fin 3 → ℕ) a + S1x128x768.size a ≤ S7x128x768.size a := by
  revert s; decide
theorem rsR_eq (s : Fin 7) : rsSet s.val = (rsM.access (Rect.unit (s := S7x128x768) ![s.val, 0, 0] S1x128x768.size (rsInb' s))).set := by
  have h : ∀ (o : ℕ) (i : ∀ a, (![o, 0, 0] : Fin 3 → ℕ) a + S1x128x768.size a ≤ S7x128x768.size a), o = s.val →
      (rsM.access (Rect.unit (s := S7x128x768) ![o, 0, 0] S1x128x768.size i)).set
        = (rsM.access (Rect.unit (s := S7x128x768) ![s.val, 0, 0] S1x128x768.size (rsInb' s))).set := by
    rintro _ _ rfl; rfl
  exact h (s.val % 7) (rsInb s.val) (Nat.mod_eq_of_lt s.isLt)
theorem rs_disjoint (s s' : Fin 7) (h : s ≠ s') : Disjoint (rsSet s.val) (rsSet s'.val) := by
  rw [rsR_eq, rsR_eq]
  exact View.disjoint_slice (v := rsM.view) (Ring.lead_disjoint (s := S7x128x768) (a₀ := 0) (R := 1) (fun j : Fin 7 => ![j.val, 0, 0]) S1x128x768.size rsInb'
    (fun b => (Nat.one_mul _).symm) rfl s s' h)
theorem rs_cover : Finset.univ.biUnion (fun s : Fin 7 => rsSet s.val) = Finset.univ := by
  have h := Ring.lead_cover (s := S7x128x768) (a₀ := 0) (R := 1) (fun j : Fin 7 => ![j.val, 0, 0]) S1x128x768.size rsInb'
    (fun b => (Nat.one_mul _).symm) (by decide) rfl (by decide) rfl
  refine Eq.trans (Finset.biUnion_congr rfl fun j _ => ?_) h
  rw [rsR_eq]
  exact (View.set_slice rsM.view _).trans (Finset.map_refl)

/-! ## Families over the chunks, read around the ring -/

theorem back_image (c : Dev nD) (a : ℕ) (ha : a = 0 ∨ a = 7) : (Finset.Ico a (a + 8)).image (back c) = Finset.univ := by
  rcases ha with rfl | rfl <;> revert c <;> decide
theorem back_inj (c : Dev nD) (a : ℕ) (ha : a = 0 ∨ a = 7) : Set.InjOn (back c) (Finset.Ico a (a + 8)) := by
  intro s hs t ht h
  rw [Finset.coe_Ico, Set.mem_Ico] at hs ht
  have hv := congrArg Fin.val h
  simp only [back] at hv
  rcases ha with rfl | rfl <;> omega

omit [FloatOps F] in
/-- All eight chunks, in the order the summing starts with, or the one the gathering ends with. -/
theorem chunks_back (c : Dev nD) (a : ℕ) (ha : a = 0 ∨ a = 7) (Φ : Fin 8 → sProp 𝕄) :
    bigSep Finset.univ Φ = bigSep (Finset.Ico a (a + 8)) (fun t => Φ (back c t)) := by
  rw [← back_image c a ha]
  exact bigSep_image_of_injOn (back_inj c a ha) Φ
omit [FloatOps F] in
theorem slots_nat (Φ : ℕ → sProp 𝕄) : bigSep Finset.univ (fun s : Fin 7 => Φ s.val) = bigSep (Finset.Ico 0 7) Φ := by
  rw [show Finset.Ico 0 7 = (Finset.univ : Finset (Fin 7)).image Fin.val from by decide]
  exact (bigSep_image_of_injOn (Fin.val_injective.injOn) Φ).symm

/-! ## The cuts -/

/-- The accumulator whole is its eight chunks. -/
theorem acc_split (c : Dev nD) : ((accLoc c ↦{fullShare} A c) : sProp 𝕄) ⊢ bigSep (Finset.Ico 0 8) (fun t => accV c (back c t) (part A c (back c t))) := by
  rw [← chunks_back c 0 (.inl rfl) (fun j => accV c j (part A c j))]
  rw [Ring.pointsTo_blocks (ℓ := accLoc c) accSet acc_disjoint acc_cover (A c)]
  refine bigSep_mono fun j _ => (?_ : (_ : sProp 𝕄) ⊢ _)
  unfold accV
  iintro H
  iexists (A c)
  isplitr
  · ipureintro; rfl
  iexact H

/-- An element's place within its chunk. -/
def within (i : S8x128x768.Idx) : S1x128x768.Idx := fun a =>
  match a with
  | ⟨0, _⟩ => (0 : Fin 1)
  | ⟨1, _⟩ => i (1 : Fin 3)
  | ⟨2, _⟩ => i (2 : Fin 3)
theorem emb_chunk (j : Fin 8) (x : S1x128x768.Idx) : (accR j).emb x (0 : Fin 3) = j := by
  apply Fin.ext
  rw [Rect.emb_apply]
  show j.val + 1 * (x (0 : Fin 3)).val = j.val
  have h : (x (0 : Fin 3)).val < 1 := (x (0 : Fin 3)).isLt
  omega
theorem emb_within (j : Fin 8) (x : S1x128x768.Idx) : within ((accR j).emb x) = x := by
  funext a
  apply Fin.ext
  match a with
  | ⟨0, _⟩ =>
    have h : (x (0 : Fin 3)).val < 1 := (x (0 : Fin 3)).isLt
    exact (Nat.lt_one_iff.mp h).symm
  | ⟨1, _⟩ =>
    show ((accR j).emb x (1 : Fin 3)).val = (x (1 : Fin 3)).val
    rw [Rect.emb_apply]
    show 0 + 1 * (x (1 : Fin 3)).val = (x (1 : Fin 3)).val
    omega
  | ⟨2, _⟩ =>
    show ((accR j).emb x (2 : Fin 3)).val = (x (2 : Fin 3)).val
    rw [Rect.emb_apply]
    show 0 + 1 * (x (2 : Fin 3)).val = (x (2 : Fin 3)).val
    omega

/-- The finished array: chunk `j` is `fin A j`. -/
def done : (cc0_scratch0 : Ref sig .tc).ty.Contents (Elt F) := fun i => fin A (i (0 : Fin 3)) (within i)

theorem done_read (j : Fin 8) : (accM.access (accR j)).read (Elt F) (done A) = fin A j := by
  funext x
  refine Eq.trans (?_ : _ = fin A ((accR j).emb x (0 : Fin 3)) (within ((accR j).emb x))) ?_
  · exact View.read_apply (v := accM.access (accR j)) (done A) x
  · rw [emb_chunk, emb_within]

/-- The eight finished chunks are the accumulator whole. -/
theorem acc_join (c : Dev nD) : bigSep (Finset.Ico 7 15) (fun t => accV c (back c t) (fin A (back c t))) ⊢ ((accLoc c ↦{fullShare} done A) : sProp 𝕄) := by
  rw [← chunks_back c 7 (.inr rfl) (fun j => accV c j (fin A j))]
  rw [Ring.pointsTo_blocks (ℓ := accLoc c) accSet acc_disjoint acc_cover (done A)]
  refine bigSep_mono fun j _ => (?_ : (_ : sProp 𝕄) ⊢ _)
  unfold accV
  iintro ⟨%f, %hf, H⟩
  have h : ((accLoc c ↦[accSet j]{fullShare} f) : sProp 𝕄) = (accLoc c ↦[accSet j]{fullShare} done A) :=
    pointsTo_congr fun i hi => by
      obtain ⟨x, -, rfl⟩ := Finset.mem_map.mp hi
      exact View.eq_of_read_eq (congrFun (hf.trans (done_read A j).symm) x)
  ihave H := (Entails.of_eq h) $$ H
  iexact H

omit [FloatOps F] in
/-- The receive buffer whole is its seven slots, -/
theorem rs_split (c : Dev nD) (f : Buf (Elt F) (rsLoc c)) : ((rsLoc c ↦{fullShare} f) : sProp 𝕄) ⊢ bigSep (Finset.Ico 0 7) (rsA (F := F) c) := by
  rw [← slots_nat (rsA (F := F) c)]
  rw [Ring.pointsTo_blocks (ℓ := rsLoc c) (fun s : Fin 7 => rsSet s.val) rs_disjoint rs_cover f]
  refine bigSep_mono fun s _ => (?_ : (_ : sProp 𝕄) ⊢ _)
  unfold rsA
  iintro H; iexists f; iexact H
/-- and back. -/
theorem rs_join (c : Dev nD) : bigSep (Finset.Ico 0 7) (rsA (F := F) c) ⊢ (iprop(∃ f, rsLoc c ↦{fullShare} f) : sProp 𝕄) := by
  rw [← slots_nat (rsA (F := F) c)]
  exact Ring.pointsTo_blocks_join_exists (ℓ := rsLoc c) (fun s : Fin 7 => rsSet s.val) rs_disjoint rs_cover
    (fun _ => FloatOps.ofBits .f32 0#32)

end Cert.KernelIdeal.Run
-- ==== Proof.Partial.lean ====
/-
  The partial product one device computes before the ring starts: eight heads of masked attention for each of the two batch
  entries, their outputs side by side, times the device's rows of the output weights. Every head is the one function `attend`.
-/
module

public import proofs.«01_k».proof.Proof.Ring

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The mask: same block of 64, first key block, or block numbers adding to a multiple of three. -/
def kmask : IVec S512x512 1 :=
  k0_pay8 (k0_pay5 (iota .tc S512x512 32 [0] iota_S512x512_d0_w32) 64#32 k0_pay3 k0_pay4) k0_pay6
    (k0_pay7 (iota .tc S512x512 32 [0] iota_S512x512_d0_w32) 64#32 k0_pay3 k0_pay4) 0#32

/-- The masked, scaled scores of one head; -/
def scores (q k : FVec F S512x64 .f32) : FVec F S512x512 .f32 :=
  select kmask
    (mulf (matmul dot_S512x64_S512x64_S512x512_1_1_0_0_n_n none q k (constant S512x512 .f32 0x00000000#32))
      (broadcast S512x512 (Scalar.ofBits .f32 0x3E000000#32)))
    (broadcast S512x512 (Scalar.ofBits .f32 0xCE6E6B28#32))
/-- their exponentials, each row shifted by its maximum; -/
def expScores (s : FVec F S512x512 .f32) : FVec F S512x512 .f32 :=
  exp (subf s (broadcastTo S512x512
    (shapeCast S512x1 (multiReduction .maximumf [1] S512 s 0xFF800000#32 reduces_S512x512_S512 (.inl rfl) rfl) shapeCasts_S512_S512x1)
    broadcasts_S512x1_S512x512))
/-- and the weighted values, the weights the exponentials over their row's sum. -/
def weigh (e : FVec F S512x512 .f32) (v : FVec F S512x64 .f32) : FVec F S512x64 .f32 :=
  matmul dot_S512x512_S512x64_S512x64_1_0_0_1_n_n none
    (divf e (broadcastTo S512x512
      (shapeCast S512x1 (multiReduction .add [1] S512 e 0x00000000#32 reduces_S512x512_S512 (.inl rfl) rfl) shapeCasts_S512_S512x1)
      broadcasts_S512x1_S512x512))
    v (constant S512x64 .f32 0x00000000#32)
def attend (q k v : FVec F S512x64 .f32) : FVec F S512x64 .f32 := weigh (expScores (scores q k)) v

/-- The projected queries. -/
def queries (x : Vec F S2x512x768 .f32) (w : Vec F S768x512 .f32) : FVec F S1024x512 .f32 := k0_pay2 x w

theorem slices_head (b : Fin 2) (h : Fin 8) : S1024x512.Slices ![512 * b.val, 64 * h.val] S512x64 := by revert b h; decide
theorem inb_head (b : Fin 2) (h : Fin 8) : ∀ a, (![b.val, 0, h.val, 0] : Fin 4 → ℕ) a + S1x512x1x64.size a ≤ S2x512x8x64.size a := by
  revert b h; decide

/-- Head `h` of batch entry `b` of the queries, and of the keys or the values. -/
def qHead (q : FVec F S1024x512 .f32) (b : Fin 2) (h : Fin 8) : FVec F S512x64 .f32 :=
  extractStridedSlice S512x64 ![512 * b.val, 64 * h.val] q (slices_head b h)
abbrev headR (b : Fin 2) (h : Fin 8) : Rect S2x512x8x64 := Rect.unit (s := S2x512x8x64) ![b.val, 0, h.val, 0] S1x512x1x64.size (inb_head b h)
def kvHead (k : Vec F S2x512x8x64 .f32) (b : Fin 2) (h : Fin 8) : FVec F S512x64 .f32 :=
  shapeCast S512x64 (fun i => k ((headR b h).emb i) : Vec F S1x512x1x64 .f32) shapeCasts_S1x512x1x64_S512x64

def headOut (q : FVec F S1024x512 .f32) (k v : Vec F S2x512x8x64 .f32) (b : Fin 2) (h : Fin 8) : FVec F S512x64 .f32 :=
  attend (qHead q b h) (kvHead k b h) (kvHead v b h)

/-- The eight heads of a batch entry side by side; the two batch entries one above the other. -/
def heads (q : FVec F S1024x512 .f32) (k v : Vec F S2x512x8x64 .f32) (b : Fin 2) : FVec F S512x512 .f32 :=
  concatenate S512x512 1 [⟨S512x64, headOut q k v b 0⟩, ⟨S512x64, headOut q k v b 1⟩, ⟨S512x64, headOut q k v b 2⟩, ⟨S512x64, headOut q k v b 3⟩, ⟨S512x64, headOut q k v b 4⟩, ⟨S512x64, headOut q k v b 5⟩, ⟨S512x64, headOut q k v b 6⟩, ⟨S512x64, headOut q k v b 7⟩]
    concatenates_S512x64_S512x64_S512x64_S512x64_S512x64_S512x64_S512x64_S512x64_S512x512_d1
def context (q : FVec F S1024x512 .f32) (k v : Vec F S2x512x8x64 .f32) : FVec F S1024x512 .f32 :=
  concatenate S1024x512 0 [⟨S512x512, heads q k v 0⟩, ⟨S512x512, heads q k v 1⟩] concatenates_S512x512_S512x512_S1024x512_d0

/-- The partial product, before it is cut into chunks, -/
def product (x : Vec F S2x512x768 .f32) (wq : Vec F S768x512 .f32) (k v : Vec F S2x512x8x64 .f32) (wo : Vec F S512x768 .f32) : FVec F S1024x768 .f32 :=
  matmul dot_S1024x512_S512x768_S1024x768_1_0_0_1_n_n none (context (queries x wq) k v)
    (shapeCast S512x768 wo shapeCasts_S512x768_S512x768) (constant S1024x768 .f32 0x00000000#32)
/-- and as the accumulator holds it. -/
def partialProduct (x : Vec F S2x512x768 .f32) (wq : Vec F S768x512 .f32) (k v : Vec F S2x512x8x64 .f32) (wo : Vec F S512x768 .f32) : FVec F S8x128x768 .f32 :=
  shapeCast S8x128x768 (shapeCast S8x128x768 (product x wq k v wo) shapeCasts_S1024x768_S8x128x768) shapeCasts_S8x128x768_S8x128x768

end Cert.KernelIdeal.Run
-- ==== Proof.Body.lean ====
/-
  The kernel body on one device: the loads of the staged operands, the partial product stored, the barrier, the seven summing and
  the seven gathering steps, the finished array copied to the result's staging buffer.
-/
module

public import proofs.«01_k».proof.Proof.Barrier
public import proofs.«01_k».proof.Proof.Buffers
public import proofs.«01_k».proof.Proof.Partial
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Partials F) (K : GSem nD τ sig → ℕ)

/-- Buffer `b` of device `c` held whole, at `f`. -/
abbrev pt (c : Dev nD) (b : Ref sig .tc) (f : b.ty.Contents (Elt F)) : sProp 𝕄 := iprop((c : Thread nD τ).loc b ↦{fullShare} f)

/-- A load from a buffer held whole. -/
theorem load_whole (c : Dev nD) {cs : CoreSpace} {s : Shape} {e : EltTy} (m : Memref sig (c : Thread nD τ).2.kind cs s e)
    (f : Buf (Elt F) (m.view.loc (c : Thread nD τ))) {r : Rect s} {hl : m.view.LoadsAt r.toLoadRect}
    {α : Type} (k : (r.shape.Idx → Elt F e) → Prog (TpuEff nD τ sig (Elt F) Λ₀ .tc) α) (Q : α → sProp 𝕄) :
    (m.view.loc (c : Thread nD τ) ↦{fullShare} f)
      ⊢ iprop(((m.view.loc (c : Thread nD τ) ↦{fullShare} f) -∗ wp frame (wpE (defs₀ (F := F)) 𝒱₀ (c : Thread nD τ) none) Set.univ (k ((m.access r).read (Elt F) f)) Q)
        -∗ wp frame (wpE (defs₀ (F := F)) 𝒱₀ (c : Thread nD τ) none) Set.univ (.op (.load m r.toLoadRect hl) k) Q) :=
  wp_load_rect 𝒱₀ (c : Thread nD τ) none Set.univ (m := m) (r := r) (S := Finset.univ) (f := f) (q := fullShare) (Finset.subset_univ _)

/-- A store to a buffer held whole. -/
theorem store_whole (c : Dev nD) {cs : CoreSpace} {s : Shape} {e : EltTy} (m : Memref sig (c : Thread nD τ).2.kind cs s e)
    (f : Buf (Elt F) (m.view.loc (c : Thread nD τ))) {r : Rect s} {w : r.shape.Idx → Elt F e} {hx : (m.access r).Stores Finset.univ}
    {hm : (Finset.univ : Finset r.shape.Idx) = Finset.univ ∨ ∀ a, r.stride a = 1}
    {α : Type} (k : PUnit → Prog (TpuEff nD τ sig (Elt F) Λ₀ .tc) α) (Q : α → sProp 𝕄) :
    (m.view.loc (c : Thread nD τ) ↦{fullShare} f)
      ⊢ iprop(((m.view.loc (c : Thread nD τ) ↦{fullShare} (m.access r).write (Elt F) f w Finset.univ)
          -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) :=
  wp_store 𝒱₀ (c : Thread nD τ) none Set.univ (m := m) (r := r) (S := Finset.univ) (f := f) (Finset.subset_univ _)

theorem pt_congr (c : Dev nD) (b : Ref sig .tc) {f g : b.ty.Contents (Elt F)} (h : f = g) : pt c b f ⊢ pt c b g := by
  rw [h]

/-- What the body leaves in the result's staging buffer. -/
def result : (cc0_stg5_0 : Ref sig .tc).ty.Contents (Elt F) := k0_pay1 (done A)

/-- The operands as the body reads them are the staged ones. -/
theorem stored (x : (cc0_stg0_0 : Ref sig .tc).ty.Contents (Elt F)) (wq : (cc0_stg1_0 : Ref sig .tc).ty.Contents (Elt F))
    (k : (cc0_stg2_0 : Ref sig .tc).ty.Contents (Elt F)) (v : (cc0_stg3_0 : Ref sig .tc).ty.Contents (Elt F))
    (wo : (cc0_stg4_0 : Ref sig .tc).ty.Contents (Elt F)) :
    partialProduct
        (((Memref.whole cc0_stg0_0).access (Rect.unit (s := S2x512x768) ![0, 0, 0] S2x512x768.size inb_S2x512x768_S2x512x768_0_0_0)).read (Elt F) x)
        (((Memref.whole cc0_stg1_0).access (Rect.unit (s := S768x512) ![0, 0] S768x512.size inb_S768x512_S768x512_0_0)).read (Elt F) wq)
        k v
        (((Memref.whole cc0_stg4_0).access (Rect.unit (s := S512x768) ![0, 0] S512x768.size inb_S512x768_S512x768_0_0)).read (Elt F) wo)
      = partialProduct x wq k v wo := by
  have h0 : ((Memref.whole cc0_stg0_0).access (Rect.unit (s := S2x512x768) ![0, 0, 0] S2x512x768.size inb_S2x512x768_S2x512x768_0_0_0)).read (Elt F) x = x :=
    Memref.read_access_unit_zero (Elt F) cc0_stg0_0 (by decide) _ x
  have h1 : ((Memref.whole cc0_stg1_0).access (Rect.unit (s := S768x512) ![0, 0] S768x512.size inb_S768x512_S768x512_0_0)).read (Elt F) wq = wq :=
    Memref.read_access_unit_zero (Elt F) cc0_stg1_0 (by decide) _ wq
  have h4 : ((Memref.whole cc0_stg4_0).access (Rect.unit (s := S512x768) ![0, 0] S512x768.size inb_S512x768_S512x768_0_0)).read (Elt F) wo = wo :=
    Memref.read_access_unit_zero (Elt F) cc0_stg4_0 (by decide) _ wo
  rw [h0, h1, h4]

def bodyPre (c : Dev nD) (x : (cc0_stg0_0 : Ref sig .tc).ty.Contents (Elt F)) (wq : (cc0_stg1_0 : Ref sig .tc).ty.Contents (Elt F))
    (k : (cc0_stg2_0 : Ref sig .tc).ty.Contents (Elt F)) (v : (cc0_stg3_0 : Ref sig .tc).ty.Contents (Elt F))
    (wo : (cc0_stg4_0 : Ref sig .tc).ty.Contents (Elt F)) : sProp 𝕄 :=
  iprop(ready A K c ∗ (∃ f, pt c cc0_scratch0 f) ∗ (∃ f, pt c cc0_scratch1 f)
    ∗ pt c cc0_stg0_0 x ∗ pt c cc0_stg1_0 wq ∗ pt c cc0_stg2_0 k ∗ pt c cc0_stg3_0 v ∗ pt c cc0_stg4_0 wo ∗ ∃ f, pt c cc0_stg5_0 f)

def bodyPost (c : Dev nD) (x : (cc0_stg0_0 : Ref sig .tc).ty.Contents (Elt F)) (wq : (cc0_stg1_0 : Ref sig .tc).ty.Contents (Elt F))
    (k : (cc0_stg2_0 : Ref sig .tc).ty.Contents (Elt F)) (v : (cc0_stg3_0 : Ref sig .tc).ty.Contents (Elt F))
    (wo : (cc0_stg4_0 : Ref sig .tc).ty.Contents (Elt F)) : sProp 𝕄 :=
  iprop((semVal (barCell c) 0 ∗ bigSep (Finset.Ico 0 14) (zeros (F := F) c) ∗ (∃ f, pt c cc0_scratch0 f) ∗ (∃ f, pt c cc0_scratch1 f))
    ∗ (∃ W, owes (c : Thread nD τ) (0 : CellTallies nD τ sig Unit) W)
    ∗ pt c cc0_stg0_0 x ∗ pt c cc0_stg1_0 wq ∗ pt c cc0_stg2_0 k ∗ pt c cc0_stg3_0 v ∗ pt c cc0_stg4_0 wo ∗ pt c cc0_stg5_0 (result A))

set_option maxHeartbeats 8000000 in
set_option sl_open_parts.maxParts 40 in
theorem sound_body (c : Dev nD) (x : (cc0_stg0_0 : Ref sig .tc).ty.Contents (Elt F)) (wq : (cc0_stg1_0 : Ref sig .tc).ty.Contents (Elt F))
    (k : (cc0_stg2_0 : Ref sig .tc).ty.Contents (Elt F)) (v : (cc0_stg3_0 : Ref sig .tc).ty.Contents (Elt F))
    (wo : (cc0_stg4_0 : Ref sig .tc).ty.Contents (Elt F)) (hA : A c = partialProduct x wq k v wo) (Q : PUnit → sProp 𝕄) :
    iprop(bodyPre A K c x wq k v wo ∗ (bodyPost A c x wq k v wo -∗ Q ⟨⟩))
      ⊢ wp frame (wpE (defs₀ (F := F)) 𝒱₀ (c : Thread nD τ) none) Set.univ (bodyAt0 (F := F) t0_0) Q := by
  unfold bodyAt0
  simp only [cc0_body_eq_skeleton]; unfold cc0_body_skel
  sl_open_parts
  simp only [semSignalWord, semWaitWord, Prog.lift, Prog.bind_op, Prog.bind_ret, Prog.pure_eq_ret, Prog.bind_assoc, wp_deviceId]
  unfold bodyPre
  iintro ⟨⟨Hready, ⟨%fa, Hacc⟩, ⟨%fr, Hrs⟩, Hx, Hwq, Hkk, Hv, Hwo, ⟨%fo, Hout⟩⟩, Hk⟩
  -- the operands read
  iapply (load_whole c (Memref.whole cc0_stg0_0) x _ Q) $$ Hx; iintro Hx
  iapply (load_whole c (Memref.whole cc0_stg1_0) wq _ Q) $$ Hwq; iintro Hwq
  iterate 16
    iapply (load_whole c (Memref.whole cc0_stg2_0) k _ Q) $$ Hkk; iintro Hkk
    iapply (load_whole c (Memref.whole cc0_stg3_0) v _ Q) $$ Hv; iintro Hv
  iapply (load_whole c (Memref.whole cc0_stg4_0) wo _ Q) $$ Hwo; iintro Hwo
  iapply (load_whole c (Memref.whole cc0_scratch0) fa _ Q) $$ Hacc; iintro Hacc
  -- the partial product stored
  iapply (store_whole c accM fa _ Q) $$ Hacc; iintro Hacc
  ihave Hacc := (pt_congr c cc0_scratch0 (g := A c) ?stored) $$ Hacc
  case stored =>
    refine (Memref.write_access_unit_zero_univ (Elt F) cc0_scratch0 (off := ![0, 0, 0]) (by decide) _ fa _).trans ?_
    rw [hA]
    refine Eq.trans ?_ (stored x wq k v wo)
    rfl
  ihave Ha := (acc_split A c) $$ Hacc
  ihave Hr := (rs_split c fr) $$ Hrs
  -- the barrier
  iapply (enter A K c (dev1 c) (dev2 c) (by decide) (by decide) (by decide) _ Q) $$ [Hready Ha Hr]
  · isplitl [Hready]; · iexact Hready
    isplitl [Ha]; · iexact Ha
    iexact Hr
  iintro ⟨Hz, Hs⟩
  -- the steps
  iapply (step_sum A K c 0 (by decide) (off1 c 0) (off2 c 0) rfl (dev3 c) rfl rfl _ Q) $$ Hs; iintro Hs
  iapply (step_sum A K c 1 (by decide) (off1 c 1) (off2 c 1) rfl (dev4 c) rfl rfl _ Q) $$ Hs; iintro Hs
  iapply (step_sum A K c 2 (by decide) (off1 c 2) (off2 c 2) rfl (dev5 c) rfl rfl _ Q) $$ Hs; iintro Hs
  iapply (step_sum A K c 3 (by decide) (off1 c 3) (off2 c 3) rfl (dev6 c) rfl rfl _ Q) $$ Hs; iintro Hs
  iapply (step_sum A K c 4 (by decide) (off1 c 4) (off2 c 4) rfl (dev7 c) rfl rfl _ Q) $$ Hs; iintro Hs
  iapply (step_sum A K c 5 (by decide) (off1 c 5) (off2 c 5) rfl (dev8 c) rfl rfl _ Q) $$ Hs; iintro Hs
  iapply (step_sum A K c 6 (by decide) (off1 c 6) (off2 c 6) rfl (dev9 c) rfl rfl _ Q) $$ Hs; iintro Hs
  ihave Hs := (summing_gathering A K c) $$ Hs
  iapply (step_gather A K c 7 (by decide) (by decide) (off3 c 0) (dev10 c) rfl rfl _ Q) $$ Hs; iintro Hs
  iapply (step_gather A K c 8 (by decide) (by decide) (off3 c 1) (dev11 c) rfl rfl _ Q) $$ Hs; iintro Hs
  iapply (step_gather A K c 9 (by decide) (by decide) (off3 c 2) (dev12 c) rfl rfl _ Q) $$ Hs; iintro Hs
  iapply (step_gather A K c 10 (by decide) (by decide) (off3 c 3) (dev13 c) rfl rfl _ Q) $$ Hs; iintro Hs
  iapply (step_gather A K c 11 (by decide) (by decide) (off3 c 4) (dev14 c) rfl rfl _ Q) $$ Hs; iintro Hs
  iapply (step_gather A K c 12 (by decide) (by decide) (off3 c 5) (dev15 c) rfl rfl _ Q) $$ Hs; iintro Hs
  iapply (step_gather A K c 13 (by decide) (by decide) (off3 c 6) (dev16 c) rfl rfl _ Q) $$ Hs; iintro Hs
  -- the end
  unfold gathering common
  icases Hs with ⟨⟨-, -, ⟨%W, HO⟩, -, Hzs, -⟩, Ha, Hr⟩
  rw [Orem_done]
  ihave Hacc := (acc_join A c) $$ Ha
  ihave Hrs := (rs_join c) $$ Hr
  iapply (load_whole c (Memref.whole cc0_scratch0) (done A) _ Q) $$ Hacc; iintro Hacc
  iapply (load_whole c (Memref.whole cc0_stg5_0) fo _ Q) $$ Hout; iintro Hout
  iapply (store_whole c (Memref.whole cc0_stg5_0) fo _ Q) $$ Hout; iintro Hout
  ihave Hout := (pt_congr c cc0_stg5_0 (g := result A) ?copied) $$ Hout
  case copied =>
    refine (Memref.write_access_unit_zero_univ (Elt F) cc0_stg5_0 (off := ![0, 0, 0]) (by decide) _ fo _).trans ?_
    unfold result
    exact congrArg k0_pay1 (Memref.read_access_unit_zero (Elt F) cc0_scratch0 (by decide) _ (done A))
  rw [wp_ret]
  imodintro
  iapply Hk
  unfold bodyPost
  isplitl [Hz Hzs Hacc Hrs]
  · isplitl [Hz]; · iexact Hz
    isplitl [Hzs]; · iexact Hzs
    isplitl [Hacc]; · iexists _; iexact Hacc
    iexact Hrs
  isplitl [HO]; · iexists W; iexact HO
  isplitl [Hx]; · iexact Hx
  isplitl [Hwq]; · iexact Hwq
  isplitl [Hkk]; · iexact Hkk
  isplitl [Hv]; · iexact Hv
  isplitl [Hwo]; · iexact Hwo
  iexact Hout

end Cert.KernelIdeal.Run
-- ==== Proof.Deal.lean ====
/-
  What a device has from the launch for the ring, and the opening of its own ring cells when the kernel's region is entered: the
  cells' counters are the region's own, so until then the cells lie dormant, each with the right to open it.
-/
module

public import proofs.«01_k».proof.Proof.Barrier
public import Idealize.ShloMosaic.Lib.Pipeline.Regions
public import Idealize.ShloMosaic.Lib.Pipeline.RegionTalk

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Partials F)

omit [FloatOps F] in
theorem bigSep_both (Φ : Bool → sProp 𝕄) : bigSep Finset.univ Φ = iprop(Φ false ∗ Φ true) := by
  rw [show (Finset.univ : Finset Bool) = {false, true} by decide, bigSep_insert (by decide), bigSep_singleton]; rfl

omit [FloatOps F] in
/-- A family over the fourteen steps, by numbers. -/
theorem bigSep_steps (Φ : ℕ → sProp 𝕄) : bigSep Finset.univ (fun s : Fin 14 => Φ s.val) = bigSep (Finset.Ico 0 14) Φ := by
  rw [show Finset.Ico 0 14 = (Finset.univ : Finset (Fin 14)).map Fin.valEmbedding by decide, bigSep_map]; rfl

omit [FloatOps F] in
/-- A family over a device's ring cells, step by step. -/
theorem bigSep_osem (c : Dev nD) (Φ : GSem nD τ sig → sProp 𝕄) :
    bigSep Finset.univ (fun k : Fin 14 × Bool => Φ ((c : Thread nD τ), osem k))
      = bigSep (Finset.Ico 0 14) (fun s => iprop(Φ (sendCell c s) ∗ Φ (recvCell c s))) := by
  rw [bigSep_univ_prod, ← bigSep_steps fun s => iprop(Φ (sendCell c s) ∗ Φ (recvCell c s))]
  exact bigSep_congr fun s _ => bigSep_both fun b => Φ ((c : Thread nD τ), osem (s, b))

omit [FloatOps F] in
/-- A region's own counters at zero, step by step. -/
theorem ownSems_zeros (c : Dev nD) :
    (Pipeline.ownSems0 (Ix := Unit) (Name := ℕ) (U := UU) (Lvl := ℕ) (Val := Elt F) (τ := τ) osem c : sProp 𝕄) = bigSep (Finset.Ico 0 14) (zeros (F := F) c) :=
  bigSep_osem c fun g => semVal g 0

/-- What a device has for step `s` before its cells are open. -/
def dormant (c : Dev nD) (s : ℕ) : sProp 𝕄 :=
  iprop(dutyTok ER (recvCell (right c) s) 0 false ∗ dutyTok ER (sendCell c s) 0 false
    ∗ (openTok ER (sendCell c s) ∗ openTok ER (recvCell c s)) ∗ cred (tallyAt (recvCell c s) () N))

/-- What a device has for the barrier. -/
def bars (c : Dev nD) : sProp 𝕄 :=
  iprop((dutyTok ER (barCell (left c)) 0 false ∗ reached ER (barCell (left c)) 0)
    ∗ (dutyTok ER (barCell (right c)) 0 true ∗ reached ER (barCell (right c)) 0)
    ∗ (atPos ER (barCell c) 0 ∅ 0 ∗ cred (tallyAt (barCell c) () 2)))

/-- What a device has from the launch. -/
def start (c : Dev nD) : sProp 𝕄 := iprop((∃ K, invs A K) ∗ bars (F := F) c ∗ bigSep (Finset.Ico 0 14) (dormant (F := F) c))
/-- What it has once its cells are open. -/
def opened (c : Dev nD) : sProp 𝕄 :=
  iprop(∃ K, invs A K ∗ levAts L lv ∗ bars (F := F) c ∗ bigSep (Finset.Ico 0 14) (held (F := F) c)
    ∗ bigSep (Finset.Ico 0 14) (fun s => reached ER (recvCell c s) 0))

/-- One step's two cells opened. -/
theorem open_step (K : GSem nD τ sig → ℕ) (c : Dev nD) (s : ℕ) (hs : s < 14) :
    iprop(invs A K ∗ (dormant (F := F) c s ∗ zeros (F := F) c s))
      ⊢ |={Set.univ}=> iprop(held (F := F) c s ∗ reached ER (recvCell c s) 0) := by
  unfold dormant zeros held
  iintro ⟨#HI, ⟨H1, H2, ⟨HoS, HoR⟩, H3⟩, HzS, HzR⟩
  ihave #HIs := (invs_send A K c hs) $$ HI
  ihave #HIr := (invs_recv A K c hs) $$ HI
  imod (Rounds.cell_open ER (ringRd A) (g := sendCell c s) (Set.mem_univ (K (sendCell c s)))) $$ [HoS HzS] with ⟨HaS, HrS⟩
  · isplitr; · iexact HIs
    isplitl [HoS] <;> iassumption
  imod (Rounds.cell_open ER (ringRd A) (g := recvCell c s) (Set.mem_univ (K (recvCell c s)))) $$ [HoR HzR] with ⟨HaR, HrR⟩
  · isplitr; · iexact HIr
    isplitl [HoR] <;> iassumption
  imodintro
  isplitr [HrR]
  · isplitl [H1]; · iexact H1
    isplitl [H2]; · iexact H2
    isplitl [HrS]; · iexact HrS
    isplitl [HaS]; · iexact HaS
    isplitl [HaR]; · iexact HaR
    iexact H3
  iexact HrR

/-- All of them. -/
theorem open_cells (c : Dev nD) :
    iprop(start A c ∗ Pipeline.ownSems0 (Ix := Unit) (Name := ℕ) (U := UU) (Lvl := ℕ) (Val := Elt F) (τ := τ) osem c ∗ levAts L lv)
      ⊢ |={Set.univ}=> opened A c := by
  rw [ownSems_zeros]
  unfold start opened
  iintro ⟨⟨⟨%K, #HI⟩, Hb, Hd⟩, Hz, Hlev⟩
  ihave Hdz := (Entails.of_eq (bigSep_sep' (Finset.Ico 0 14) (dormant (F := F) c) (zeros (F := F) c)).symm) $$ [Hd Hz]
  · isplitl [Hd] <;> iassumption
  ihave Hall := (bigSep_with_persistent (S := Finset.Ico 0 14) (R := invs A K) (Φ := fun s => iprop(dormant (F := F) c s ∗ zeros (F := F) c s))
    fun s hs => open_step A K c s (Finset.mem_Ico.mp hs).2) $$ [Hdz]
  · isplitr; · iexact HI
    iexact Hdz
  imod (bigSep_fupd (Finset.Ico 0 14) fun s => iprop(held (F := F) c s ∗ reached ER (recvCell c s) 0)) $$ Hall with Hall
  ihave Hall := (Entails.of_eq (bigSep_sep' (Finset.Ico 0 14) (held (F := F) c) fun s => reached ER (recvCell c s) 0)) $$ Hall
  icases Hall with ⟨Hh, Hr⟩
  imodintro
  iexists K
  isplitr; · iexact HI
  isplitl [Hlev]; · iexact Hlev
  isplitl [Hb]; · iexact Hb
  isplitl [Hh] <;> iassumption

end Cert.KernelIdeal.Run
-- ==== Proof.Region.lean ====
/-
  The kernel's region: what its windows hold, its body's obligation (`sound_body`), and its record, entered with each device owing
  its launch dues and left owing nothing, the result at `result`.
-/
module

public import proofs.«01_k».proof.Proof.Body
public import proofs.«01_k».proof.Proof.Deal
public import proofs.«01_k».proof.Proof.Gen.KernelIdeal.Regions

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

/- What each device's buffers hold when the region is entered. -/
variable (W : Dev nD → Valuation τ sig (Elt F))

/-- The devices' partial products, from the kernel's operands. -/
def partials : Partials F := fun c =>
  partialProduct (W c main_arg0) (W c main_arg1) (W c main_v9) (W c main_v14) (W c main_arg4)

/-- What they hold when it is left. -/
abbrev leave (c : Dev nD) : Valuation τ sig (Elt F) := Function.update (W c) main_v15 (result (partials W))

/-- What the region's body starts with beside its windows, and what it ends with. -/
def enterInv (c : Dev nD) : sProp 𝕄 :=
  iprop(opened (partials W) c ∗ ((∃ f, pt c cc0_scratch0 f) ∗ (∃ f, pt c cc0_scratch1 f)) ∗ ∃ r, prngReg c r)
def leaveInv (c : Dev nD) : sProp 𝕄 :=
  iprop((semVal (barCell c) 0 ∗ bigSep (Finset.Ico 0 14) (zeros (F := F) c)) ∗ ((∃ f, pt c cc0_scratch0 f) ∗ (∃ f, pt c cc0_scratch1 f)) ∗ ∃ r, prngReg c r)

/-- The region's data: every operand its own array throughout, the result at `result`. -/
def dat (c : Dev nD) : Dat τ (Elt F) Unit ℕ UU ℕ cfg0 c where
  A w := W c (Proc.devRef .tc (Pipeline.arrRef cfg0.spec w))
  after w _ := match w with
    | ⟨0, _⟩ => W c main_arg0
    | ⟨1, _⟩ => W c main_arg1
    | ⟨2, _⟩ => W c main_v9
    | ⟨3, _⟩ => W c main_v14
    | ⟨4, _⟩ => W c main_arg4
    | ⟨5, _⟩ => result (partials W)
  Φ t := if t.val = 0 then enterInv W c else leaveInv c
  q _ := fullShare
  owed t := if t.val = 0 then O₀ c else 0

/-- The family of the one region. -/
def dats (p : Fin 1) (c : Dev nD) : Dat τ (Elt F) Unit ℕ UU ℕ (Pipeline.pin (pcfgs (F := F)) adm p) c :=
  match p with | 0 => dat W c

theorem owed_zero (c : Dev nD) : (dats W 0 c).owed 0 = O₀ c := by
  show (if (0 : Fin (cfg0.N + 1)).val = 0 then O₀ c else 0) = _; exact if_pos rfl
theorem owed_first (c : Dev nD) : (dat W c).owed t0_0.castSucc = O₀ c := by
  show (if (t0_0.castSucc : Fin (cfg0.N + 1)).val = 0 then O₀ c else 0) = _; exact if_pos rfl
theorem owed_last (c : Dev nD) : (dats W 0 c).owed (Fin.last _) = 0 := by
  show (if (Fin.last cfg0.N).val = 0 then O₀ c else 0) = _
  rw [Fin.val_last, if_neg (by rw [show cfg0.N = 1 from N_0]; decide)]
theorem inv_zero (c : Dev nD) : (dats W 0 c).Φ 0 = enterInv W c := by
  show (if (0 : Fin (cfg0.N + 1)).val = 0 then enterInv W c else leaveInv c) = _; exact if_pos rfl
theorem inv_last (c : Dev nD) : (dats W 0 c).Φ (Fin.last _) = leaveInv c := by
  show (if (Fin.last cfg0.N).val = 0 then enterInv W c else leaveInv c) = _
  rw [Fin.val_last, if_neg (by rw [show cfg0.N = 1 from N_0]; decide)]

theorem inv_first (c : Dev nD) : (dat W c).Φ (Fin.castSucc t0_0) = enterInv W c := by
  show (if (t0_0.castSucc : Fin (cfg0.N + 1)).val = 0 then enterInv W c else leaveInv c) = _; exact if_pos rfl
theorem inv_second (c : Dev nD) : (dat W c).Φ (Fin.succ t0_0) = leaveInv c := by
  show (if (t0_0.succ : Fin (cfg0.N + 1)).val = 0 then enterInv W c else leaveInv c) = _; exact if_neg (Nat.succ_ne_zero _)
theorem owed_second (c : Dev nD) : (dat W c).owed t0_0.succ = 0 := by
  show (if (t0_0.succ : Fin (cfg0.N + 1)).val = 0 then O₀ c else 0) = _; exact if_neg (Nat.succ_ne_zero _)

omit [FloatOps F] in
/-- What a device owes, as the pipeline states it. -/
theorem owes_of {c : Dev nD} (d : Dat τ (Elt F) Unit ℕ UU ℕ cfg0 c) (t : Fin (cfg0.N + 1)) (O : CellTallies nD τ sig Unit) (h : d.owed t = O) :
    (d.owesAt () t : sProp 𝕄) ⊢ iprop(∃ W, owes (c : Thread nD τ) O W) := by
  unfold Dat.owesAt Pipeline.owesWithin
  rw [h]
  iintro ⟨%W, -, HO⟩
  iexists W; iexact HO
omit [FloatOps F] in
theorem to_owes {c : Dev nD} (d : Dat τ (Elt F) Unit ℕ UU ℕ cfg0 c) (t : Fin (cfg0.N + 1)) (O : CellTallies nD τ sig Unit) (h : d.owed t = O)
    (hr : d.recorded t = Set.univ) : iprop(∃ W, owes (c : Thread nD τ) O W) ⊢ (d.owesAt () t : sProp 𝕄) := by
  unfold Dat.owesAt Pipeline.owesWithin Dat.bound
  rw [h, hr]
  iintro ⟨%W, HO⟩
  iexists W
  isplitr; · ipureintro; exact fun _ _ => Or.inl trivial
  iexact HO

/-! ## The windows -/

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = pt c b X := by
  unfold owns
  simp only [Memref.view_whole, View.read_whole, View.set_whole]
  refine BI.equiv_iff.mp ⟨(?_ : (_ : sProp 𝕄) ⊢ _), (?_ : (_ : sProp 𝕄) ⊢ _)⟩
  · iintro ⟨%f, %h, H⟩; subst h; iexact H
  · iintro H; iexists X; isplitr; · ipureintro; rfl
    iexact H

theorem before0 (c : Dev nD) (d) : (dat W c).before (0 : Fin 6) t0_0 d = W c main_arg0 := by
  rw [Pipeline.Dat.before_fetched _ _ _ (fetch0_0 t0_0)]
  exact Memref.read_access_unit_zero (Elt F) main_arg0 (off := fun a => win0_0.index (0 : Fin 1) a * main_arg0.ty.shape.size a)
    (funext fun a => by fin_cases a <;> decide) (fun a => by fin_cases a <;> decide) (W c main_arg0)
theorem before1 (c : Dev nD) (d) : (dat W c).before (1 : Fin 6) t0_0 d = W c main_arg1 := by
  rw [Pipeline.Dat.before_fetched _ _ _ (fetch0_1 t0_0)]
  exact Memref.read_access_unit_zero (Elt F) main_arg1 (off := fun a => win0_1.index (0 : Fin 1) a * main_arg1.ty.shape.size a)
    (funext fun a => by fin_cases a <;> decide) (fun a => by fin_cases a <;> decide) (W c main_arg1)
theorem before2 (c : Dev nD) (d) : (dat W c).before (2 : Fin 6) t0_0 d = W c main_v9 := by
  rw [Pipeline.Dat.before_fetched _ _ _ (fetch0_2 t0_0)]
  exact Memref.read_access_unit_zero (Elt F) main_v9 (off := fun a => win0_2.index (0 : Fin 1) a * main_v9.ty.shape.size a)
    (funext fun a => by fin_cases a <;> decide) (fun a => by fin_cases a <;> decide) (W c main_v9)
theorem before3 (c : Dev nD) (d) : (dat W c).before (3 : Fin 6) t0_0 d = W c main_v14 := by
  rw [Pipeline.Dat.before_fetched _ _ _ (fetch0_3 t0_0)]
  exact Memref.read_access_unit_zero (Elt F) main_v14 (off := fun a => win0_3.index (0 : Fin 1) a * main_v14.ty.shape.size a)
    (funext fun a => by fin_cases a <;> decide) (fun a => by fin_cases a <;> decide) (W c main_v14)
theorem before4 (c : Dev nD) (d) : (dat W c).before (4 : Fin 6) t0_0 d = W c main_arg4 := by
  rw [Pipeline.Dat.before_fetched _ _ _ (fetch0_4 t0_0)]
  exact Memref.read_access_unit_zero (Elt F) main_arg4 (off := fun a => win0_4.index (0 : Fin 1) a * main_arg4.ty.shape.size a)
    (funext fun a => by fin_cases a <;> decide) (fun a => by fin_cases a <;> decide) (W c main_arg4)

/-- The result's array at the end. -/
theorem array_result (c : Dev nD) : (dat W c).arrAt (5 : Fin 6) cfg0.N = result (partials W) := by
  rw [show cfg0.N = (t0_0 : Fin cfg0.N).val + 1 from N_0, (dat W c).arrAt_succ (5 : Fin 6) t0_0, if_pos (flush0_5 t0_0)]
  exact Memref.write_access_unit_zero_univ (Elt F) main_v15 (off := fun a => win0_5.index (0 : Fin 1) a * main_v15.ty.shape.size a)
    (funext fun a => by fin_cases a <;> decide) (fun a => by fin_cases a <;> decide) _ (result (partials W))

/-! ## The body's obligation -/

omit [FloatOps F] in
/-- A staging buffer with a known value, and one with any. -/
theorem staged (c : Dev nD) (b : Ref sig .tc) {f : b.ty.Contents (Elt F) → b.ty.Contents (Elt F)} {X : b.ty.Contents (Elt F)} (h : ∀ d, f d = X) :
    iprop(∃ d, owns (Ix := Unit) (Name := ℕ) (U := UU) (Lvl := ℕ) (c : Thread nD τ) (Memref.whole b) fullShare (f d)) ⊢ (pt c b X : sProp 𝕄) := by
  iintro ⟨%d, H⟩
  ihave H := (Entails.of_eq (by rw [h d, owns_whole])) $$ H
  iexact H
omit [FloatOps F] in
theorem staged_any (c : Dev nD) (b : Ref sig .tc) (f : b.ty.Contents (Elt F) → b.ty.Contents (Elt F)) :
    iprop(∃ d, owns (Ix := Unit) (Name := ℕ) (U := UU) (Lvl := ℕ) (c : Thread nD τ) (Memref.whole b) fullShare (f d)) ⊢ (iprop(∃ X, pt c b X) : sProp 𝕄) := by
  iintro ⟨%d, H⟩
  ihave H := (Entails.of_eq (owns_whole c b (f d))) $$ H
  iexists f d; iexact H

/-- The body's run, on buffers named. -/
theorem obligation_run (c : Dev nD) (Q : PUnit → sProp 𝕄)
    (hQ : ∀ u, iprop(leaveInv c ∗ (∃ W, owes (c : Thread nD τ) (0 : CellTallies nD τ sig Unit) W)
      ∗ pt c cc0_stg0_0 (W c main_arg0) ∗ pt c cc0_stg1_0 (W c main_arg1) ∗ pt c cc0_stg2_0 (W c main_v9)
      ∗ pt c cc0_stg3_0 (W c main_v14) ∗ pt c cc0_stg4_0 (W c main_arg4) ∗ pt c cc0_stg5_0 (result (partials W))) ⊢ Q u) :
    iprop(enterInv W c ∗ (∃ W, owes (c : Thread nD τ) (O₀ c) W)
      ∗ pt c cc0_stg0_0 (W c main_arg0) ∗ pt c cc0_stg1_0 (W c main_arg1) ∗ pt c cc0_stg2_0 (W c main_v9)
      ∗ pt c cc0_stg3_0 (W c main_v14) ∗ pt c cc0_stg4_0 (W c main_arg4) ∗ ∃ X, pt c cc0_stg5_0 X)
      ⊢ wp frame (wpE (defs₀ (F := F)) 𝒱₀ (c : Thread nD τ) none) Set.univ (bodyAt0 (F := F) t0_0) Q := by
  unfold enterInv opened bars
  iintro ⟨⟨⟨%K, HI, Hlev, ⟨Hl, Hr, Hb⟩, Hh, Hre⟩, ⟨Hs0, Hs1⟩, Hp⟩, HO, H0, H1, H2, H3, H4, H5⟩
  iapply (sound_body (partials W) K c (W c main_arg0) (W c main_arg1) (W c main_v9) (W c main_v14) (W c main_arg4) rfl Q)
  isplitr [Hp]
  · unfold bodyPre ready
    isplitr [Hs0 Hs1 H0 H1 H2 H3 H4 H5]
    · isplitl [HI]; · iexact HI
      isplitl [Hlev]; · iexact Hlev
      isplitl [HO]; · iexact HO
      isplitl [Hl]; · iexact Hl
      isplitl [Hr]; · iexact Hr
      isplitl [Hb]; · iexact Hb
      isplitl [Hh]; · iexact Hh
      iexact Hre
    isplitl [Hs0]; · iexact Hs0
    isplitl [Hs1]; · iexact Hs1
    isplitl [H0]; · iexact H0
    isplitl [H1]; · iexact H1
    isplitl [H2]; · iexact H2
    isplitl [H3]; · iexact H3
    isplitl [H4]; · iexact H4
    iexact H5
  iintro H
  iapply (hQ ⟨⟩)
  unfold bodyPost leaveInv
  icases H with ⟨⟨Hz, Hzs, Hs0, Hs1⟩, HO, Hw⟩
  isplitr [HO Hw]
  · isplitl [Hz Hzs]; · isplitl [Hz] <;> iassumption
    isplitl [Hs0 Hs1]; · isplitl [Hs0] <;> iassumption
    iexact Hp
  isplitl [HO]; · iexact HO
  iexact Hw

omit [FloatOps F] in
/-- Eight parts, each taken on its own. -/
theorem each {P0 Q0 P1 Q1 P2 Q2 P3 Q3 P4 Q4 P5 Q5 P6 Q6 P7 Q7 : sProp 𝕄} (h0 : P0 ⊢ Q0) (h1 : P1 ⊢ Q1) (h2 : P2 ⊢ Q2) (h3 : P3 ⊢ Q3) (h4 : P4 ⊢ Q4) (h5 : P5 ⊢ Q5) (h6 : P6 ⊢ Q6) (h7 : P7 ⊢ Q7) :
    iprop(P0 ∗ P1 ∗ P2 ∗ P3 ∗ P4 ∗ P5 ∗ P6 ∗ P7) ⊢ iprop(Q0 ∗ Q1 ∗ Q2 ∗ Q3 ∗ Q4 ∗ Q5 ∗ Q6 ∗ Q7) := by
  iintro ⟨H0, H1, H2, H3, H4, H5, H6, H7⟩
  isplitl [H0]; · iapply h0 $$ H0
  isplitl [H1]; · iapply h1 $$ H1
  isplitl [H2]; · iapply h2 $$ H2
  isplitl [H3]; · iapply h3 $$ H3
  isplitl [H4]; · iapply h4 $$ H4
  isplitl [H5]; · iapply h5 $$ H5
  isplitl [H6]; · iapply h6 $$ H6
  iapply h7 $$ H7

set_option maxRecDepth 20000 in
theorem obligation (c : Dev nD) : BodyObligation (dat W c) (defs₀ (F := F)) 𝒱₀ () Set.univ := fun t => by
  rw [fin_N0 t, bigSep_W0, bigSep_W0]
  refine BI.Entails.trans (?_ : (_ : sProp 𝕄) ⊢ _) (obligation_run W c _ fun _ => ?_)
  · exact each (Entails.of_eq (inv_first W c)) (owes_of (dat W c) _ (O₀ c) (owed_first W c))
      (staged c cc0_stg0_0 (f := fun d => (dat W c).before (0 : Fin 6) t0_0 d) (X := W c main_arg0) (before0 W c))
      (staged c cc0_stg1_0 (f := fun d => (dat W c).before (1 : Fin 6) t0_0 d) (X := W c main_arg1) (before1 W c))
      (staged c cc0_stg2_0 (f := fun d => (dat W c).before (2 : Fin 6) t0_0 d) (X := W c main_v9) (before2 W c))
      (staged c cc0_stg3_0 (f := fun d => (dat W c).before (3 : Fin 6) t0_0 d) (X := W c main_v14) (before3 W c))
      (staged c cc0_stg4_0 (f := fun d => (dat W c).before (4 : Fin 6) t0_0 d) (X := W c main_arg4) (before4 W c))
      (staged_any c cc0_stg5_0 fun d => (dat W c).before (5 : Fin 6) t0_0 d)
  · exact each (Entails.of_eq (inv_second W c).symm) (to_owes (dat W c) _ 0 (owed_second W c) rfl)
      (Entails.of_eq (owns_whole c cc0_stg0_0 (W c main_arg0)).symm)
      (Entails.of_eq (owns_whole c cc0_stg1_0 (W c main_arg1)).symm)
      (Entails.of_eq (owns_whole c cc0_stg2_0 (W c main_v9)).symm)
      (Entails.of_eq (owns_whole c cc0_stg3_0 (W c main_v14)).symm)
      (Entails.of_eq (owns_whole c cc0_stg4_0 (W c main_arg4)).symm)
      (Entails.of_eq (owns_whole c cc0_stg5_0 (result (partials W))).symm)

end Cert.KernelIdeal.Run
-- ==== Proof.Record.lean ====
/-
  The region's record: entered with each device owing its launch dues, left owing nothing, the barrier's counter back at zero and
  the result's buffer at `result`.
-/
module

public import proofs.«01_k».proof.Proof.Region

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat RegionSeg)

variable (W : Dev nD → Valuation τ sig (Elt F))

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_sems : Pipeline.OwnSemFacts spec0 osem := by decide

/-- At launch a device owes only cells above level 0. -/
theorem O₀_level {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  have bar (d : Dev nD) (h : 0 < tallyAt (barCell d) () 1 g u) : u ∈ L g ∧ 0 < lv g u := by
    obtain rfl := tallyAt_pos h
    exact ⟨by rw [L_tc]; exact Finset.mem_singleton_self _, Nat.one_pos⟩
  rcases Nat.add_pos_iff_pos_or_pos.mp h with h | h
  · rcases Nat.add_pos_iff_pos_or_pos.mp h with h | h
    · obtain ⟨t, -, ht, rfl⟩ := Orem_pos h
      exact ⟨by rw [L_tc]; exact Finset.mem_singleton_self _, by rw [lv_recv _ ht]; omega⟩
    · exact bar _ h
  · exact bar _ h

theorem owed_level (c : Dev nD) (t : Fin ((Pipeline.pin (pcfgs (F := F)) adm 0).N + 1)) (g : GSem nD τ sig) (u : Unit)
    (h : 0 < (dats W 0 c).owed t g u) : u ∈ L g ∧ 0 < lv g u := by
  rw [show (dats W 0 c).owed t = if t.val = 0 then O₀ c else 0 from rfl] at h
  split at h
  · exact O₀_level h
  · exact absurd h (Nat.lt_irrefl 0)

/-- The staging buffers' cells are at level 0. -/
theorem stage_level (c : Dev nD) : ∀ (w : Fin 6) (s : Fin (spec0 w).nbuf), lv ((c : Thread nD τ), .dma ((spec0 w).sem s)) () = 0 := by
  intro w s
  show (if isRecv ((spec0 w).sem s) then stepOf ((spec0 w).sem s) + 2 else 0) = 0
  rw [if_neg]
  revert w s; decide

theorem share_full (c : Dev nD) (w : Fin cfg0.W) : (dats W 0 c).share w = fullShare := by unfold Dat.share; split <;> rfl

/-- The arrays at the end. -/
theorem arrays_last (c : Dev nD) : ∀ w : Fin 6, (dat W c).arrAt w cfg0.N = leave W c (Proc.devRef .tc (Pipeline.arrRef spec0 w)) := by
  have hin (w : Fin 6) (h : (cfg0.win w).isOut = false) (r : Ref sig .tc) (hr : Pipeline.arrRef spec0 w = r) (hne : r ≠ main_v15) :
      (dat W c).arrAt w cfg0.N = leave W c (Proc.devRef .tc (Pipeline.arrRef spec0 w)) := by
    rw [(dat W c).arrAt_in w h]
    subst hr
    exact (Function.update_of_ne (StableHlo.devRef_ne_of_ne hne) _ _).symm
  intro w
  fin_cases w
  · exact hin 0 rfl main_arg0 rfl (by decide)
  · exact hin 1 rfl main_arg1 rfl (by decide)
  · exact hin 2 rfl main_v9 rfl (by decide)
  · exact hin 3 rfl main_v14 rfl (by decide)
  · exact hin 4 rfl main_arg4 rfl (by decide)
  · have h : leave W c (Proc.devRef .tc main_v15) = result (partials W) := Function.update_self _ _ _
    exact (array_result W c).trans h.symm

theorem invariant_in (c : Dev nD) :
    iprop(Pipeline.scopedRest (Pipeline.pin (pcfgs (F := F)) adm 0).spec c ∗ (∃ r, prngReg c r) ∗ StableHlo.held (c.tc : Thread nD τ) ∅ (W c)
      ∗ opened (partials W) c) ⊢ (dats W 0 c).Φ 0 := by
  rw [inv_zero, show (Pipeline.pin (pcfgs (F := F)) adm 0).spec = spec0 from rfl, scopedRest0_eq]
  unfold enterInv
  iintro ⟨Hs, Hp, -, Ho⟩
  isplitl [Ho]; · iexact Ho
  isplitl [Hs]; · iexact Hs
  iexact Hp

theorem invariant_out (c : Dev nD) : (dats W 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (leave W c) ∗ Pipeline.ownSems0 osem c ∗ semVal (barCell c) 0) := by
  rw [show (dats W 0 c).Φ (Fin.last (Pipeline.pin (pcfgs (F := F)) adm 0).N) = leaveInv c from inv_last W c,
    show (Pipeline.pin (pcfgs (F := F)) adm 0).spec = spec0 from rfl, scopedRest0_eq, ownSems_zeros]
  unfold leaveInv StableHlo.held
  rw [bigSep_empty]
  iintro ⟨⟨Hb, Hz⟩, Hs, Hp⟩
  isplitl [Hs]; · iexact Hs
  isplitl [Hp]; · iexact Hp
  isplitr; · iempintro
  isplitl [Hz]; · iexact Hz
  iexact Hb

/-- The buffers no window stages. -/
abbrev others : Finset (DevRef τ sig) := Pipeline.ucRefs τ sig \ Pipeline.arrRefs (τ := τ) spec0

set_option backward.isDefEq.respectTransparency.types false in
def region : RegionSeg (pcfgs (F := F)) adm (dats W) () defs₀ 𝒱₀ L lv 0 :=
  RegionSeg.ofTalk (pcfgs (F := F)) adm (dats W) () defs₀ 𝒱₀ L lv 0 osem own_sems
    ∅ others (Finset.empty_subset _) kit rfl (fun c => (obligation W c).loose)
    (fun _ => 0) O₀ (fun c => (owed_zero W c).trans (zero_add _).symm) (owed_last W) (fun _ => rfl) (share_full W)
    W (leave W) (fun c b hb => Function.update_of_ne (fun e => by subst e; revert hb; decide) _ _)
    (start (partials W)) (fun c => semVal (barCell c) 0) (opened (partials W)) (fun c => semVal (barCell c) 0)
    (open_cells (partials W)) (invariant_in W) (invariant_out W)
    (fun c => by iintro H; imodintro; iexact H)
    (fun _ => 0)
    ⟨fun c w s => by rw [L_tc]; exact Finset.mem_singleton_self _, fun c w s => le_of_eq (stage_level c w s), owed_level W⟩
    (fun _ => iprop(emp))
    (fun c w => rfl) (arrays_last W)

omit [FloatOps F] in
theorem held_parts (c : Dev nD) (V : Valuation τ sig (Elt F)) :
    (StableHlo.held (c : Thread nD τ) (Pipeline.ucRefs τ sig) V : sProp 𝕄)
      = iprop(StableHlo.held (c : Thread nD τ) (Pipeline.arrRefs (τ := τ) spec0) V ∗ StableHlo.held (c : Thread nD τ) others V) :=
  StableHlo.held_sub_split (c : Thread nD τ) (Pipeline.arrRefs_sub_ucRefs spec0 (by decide)) V

/-- What rides beside the buffers into the region. -/
def riding (A : Partials F) (c : Dev nD) : sProp 𝕄 := iprop((∃ r, prngReg c r) ∗ start A c ∗ ∃ W, owes (c : Thread nD τ) (O₀ c) W)

theorem region_pre (c : Dev nD) :
    iprop(StableHlo.held (c : Thread nD τ) (Pipeline.ucRefs τ sig) (W c) ∗ riding (partials W) c) ⊢ (region W).pre c := by
  show _ ⊢ iprop(StableHlo.held (c.tc : Thread nD τ) (Pipeline.arrRefs (τ := τ) spec0) (W c) ∗ (∃ r, prngReg c r)
    ∗ (StableHlo.held (c.tc : Thread nD τ) others (W c) ∗ emp) ∗ start (partials W) c ∗ ∃ Wd, owes (c : Thread nD τ) (0 + O₀ c) Wd)
  rw [held_parts, zero_add]
  unfold riding
  iintro ⟨⟨Ha, Ho⟩, Hp, Hs, HO⟩
  isplitl [Ha]; · iexact Ha
  isplitl [Hp]; · iexact Hp
  isplitl [Ho]
  · isplitl [Ho]; · iexact Ho
    iempintro
  isplitl [Hs] <;> iassumption

theorem region_post (c : Dev nD) :
    (region W).post c ⊢ iprop((StableHlo.held (c : Thread nD τ) (Pipeline.ucRefs τ sig) (leave W c) ∗ semVal (barCell c) 0)
      ∗ ∃ Wd, owes (c : Thread nD τ) (0 : CellTallies nD τ sig Unit) Wd) := by
  show iprop(StableHlo.held (c.tc : Thread nD τ) (Pipeline.arrRefs (τ := τ) spec0) (leave W c) ∗ (∃ r, prngReg c r)
    ∗ (StableHlo.held (c.tc : Thread nD τ) others (leave W c) ∗ emp) ∗ semVal (barCell c) 0
    ∗ ∃ Wd, owes (c : Thread nD τ) (0 : CellTallies nD τ sig Unit) Wd) ⊢ _
  rw [held_parts]
  iintro ⟨Ha, -, ⟨Ho, -⟩, Hb, HO⟩
  isplitr [HO]
  · isplitr [Hb]
    · isplitl [Ha] <;> iassumption
    iexact Hb
  iexact HO

end Cert.KernelIdeal.Run
-- ==== Proof.Start.lean ====
/-
  The launch: every cell's invariant is allocated, the ring's cells not yet open, and each device is dealt the tokens of the
  duties it pays, its rights to open, and the credit its waits need.
-/
module

public import proofs.«01_k».proof.Proof.Record

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Partials F)

/-! ## Cells and tokens -/

def barEmb : Dev nD ↪ GSem nD τ sig := ⟨fun c => barCell c, fun _ _ h => congrArg (fun g : GSem nD τ sig => g.1.1) h⟩
def ringEmb : Dev nD × (Fin 14 × Bool) ↪ GSem nD τ sig :=
  ⟨fun p => ((p.1 : Thread nD τ), osem p.2), fun _ _ h =>
    Prod.ext (congrArg (fun g : GSem nD τ sig => g.1.1) h) (osem_injective (congrArg Prod.snd h))⟩
def barTokEmb : Dev nD × Bool ↪ GSem nD τ sig × ℕ × Bool :=
  ⟨fun p => (barCell p.1, 0, p.2), fun _ _ h =>
    Prod.ext (congrArg (fun t : GSem nD τ sig × ℕ × Bool => t.1.1.1) h) (congrArg (fun t : GSem nD τ sig × ℕ × Bool => t.2.2) h)⟩
def ringTokEmb : Dev nD × (Fin 14 × Bool) ↪ GSem nD τ sig × ℕ × Bool :=
  ⟨fun p => (ringEmb p, 0, false), fun _ _ h => ringEmb.injective (congrArg Prod.fst h)⟩

/-- The barrier cells, open from the launch, and the ring's, opened later; -/
abbrev barCells : Finset (GSem nD τ sig) := Finset.univ.map barEmb
abbrev ringCells : Finset (GSem nD τ sig) := Finset.univ.map ringEmb
/-- the tokens of every duty. -/
abbrev barToks : Finset (GSem nD τ sig × ℕ × Bool) := Finset.univ.map barTokEmb
abbrev ringToks : Finset (GSem nD τ sig × ℕ × Bool) := Finset.univ.map ringTokEmb

theorem reg_ne_dma (q : DmaSem sig) : (SemLoc.reg barrier0 : SemLoc sig) ≠ .dma q := fun h => by cases h

theorem cells_disjoint : Disjoint barCells ringCells := by
  rw [Finset.disjoint_left]
  intro g h₁ h₂
  obtain ⟨c, -, rfl⟩ := Finset.mem_map.mp h₁
  obtain ⟨p, -, h⟩ := Finset.mem_map.mp h₂
  exact reg_ne_dma _ (congrArg (fun g : GSem nD τ sig => g.2) h.symm)
theorem toks_disjoint : Disjoint barToks ringToks := by
  rw [Finset.disjoint_left]
  intro g h₁ h₂
  obtain ⟨c, -, rfl⟩ := Finset.mem_map.mp h₁
  obtain ⟨p, -, h⟩ := Finset.mem_map.mp h₂
  exact reg_ne_dma _ (congrArg (fun t : GSem nD τ sig × ℕ × Bool => t.1.2) h.symm)

omit [FloatOps F] in
theorem over_bars (Φ : GSem nD τ sig → sProp 𝕄) : bigSep barCells Φ = bigSep Finset.univ fun c : Dev nD => Φ (barCell c) :=
  bigSep_map barEmb
omit [FloatOps F] in
theorem over_ring (Φ : GSem nD τ sig → sProp 𝕄) :
    bigSep ringCells Φ = bigSep Finset.univ fun c : Dev nD => bigSep (Finset.Ico 0 14) fun s => iprop(Φ (sendCell c s) ∗ Φ (recvCell c s)) := by
  rw [bigSep_map, bigSep_univ_prod]
  exact bigSep_congr fun c _ => bigSep_osem c Φ

/-- The allocated invariants are every device's. -/
theorem over_invs (K : GSem nD τ sig → ℕ) : (bigSep (barCells ∪ ringCells) fun g => cellInv ER (ringRd A) (K g) g) = invs A K := by
  rw [bigSep_union cells_disjoint, over_bars fun g => cellInv ER (ringRd A) (K g) g, over_ring fun g => cellInv ER (ringRd A) (K g) g]
  exact (bigSep_sep' _ _ _).symm

omit [FloatOps F] in
theorem over_toks : (bigSep (barToks ∪ ringToks) fun x => (dutyTok ER x.1 x.2.1 x.2.2 : sProp 𝕄))
    = iprop((bigSep Finset.univ fun c : Dev nD => iprop(dutyTok ER (barCell c) 0 false ∗ dutyTok ER (barCell c) 0 true))
      ∗ bigSep Finset.univ fun c : Dev nD => bigSep (Finset.Ico 0 14) fun s =>
          iprop(dutyTok ER (sendCell c s) 0 false ∗ dutyTok ER (recvCell c s) 0 false)) := by
  rw [bigSep_union toks_disjoint, bigSep_map, bigSep_map, bigSep_univ_prod, bigSep_univ_prod]
  congr 1
  · exact bigSep_congr fun c _ => bigSep_both fun b => dutyTok ER (barCell c) 0 b
  · exact bigSep_congr fun c _ => bigSep_osem c fun g => dutyTok ER g 0 false

/-- The tokens of what device `c` pays. -/
def pays (c : Dev nD) : sProp 𝕄 :=
  iprop((dutyTok ER (barCell (left c)) 0 false ∗ dutyTok ER (barCell (right c)) 0 true)
    ∗ bigSep (Finset.Ico 0 14) fun s => iprop(dutyTok ER (sendCell c s) 0 false ∗ dutyTok ER (recvCell (right c) s) 0 false))

omit [FloatOps F] in
/-- Every token to the device that pays it. -/
theorem toks_dealt : (bigSep (barToks ∪ ringToks) fun x => (dutyTok ER x.1 x.2.1 x.2.2 : sProp 𝕄)) = bigSep Finset.univ fun c : Dev nD => pays (F := F) c := by
  rw [over_toks]
  unfold pays
  have hs (c : Dev nD) (d : Dev nD) : (bigSep (Finset.Ico 0 14) fun s => iprop(dutyTok ER (sendCell c s) 0 false ∗ dutyTok ER (recvCell d s) 0 false) : sProp 𝕄)
      = iprop((bigSep (Finset.Ico 0 14) fun s => dutyTok ER (sendCell c s) 0 false) ∗ bigSep (Finset.Ico 0 14) fun s => dutyTok ER (recvCell d s) 0 false) :=
    bigSep_sep' _ _ _
  simp only [hs, bigSep_sep']
  rw [bigSep_univ_equiv ring.symm (fun c : Dev nD => (dutyTok ER (barCell c) 0 false : sProp 𝕄)),
    bigSep_univ_equiv ring (fun c : Dev nD => (dutyTok ER (barCell c) 0 true : sProp 𝕄)),
    bigSep_univ_equiv ring (fun c : Dev nD => (bigSep (Finset.Ico 0 14) fun s => dutyTok ER (recvCell c s) 0 false : sProp 𝕄))]
  rfl

/-! ## The credit -/

theorem Orem_bar (d c : Dev nD) : Orem d 0 (barCell c) () = 0 := by
  by_contra h
  obtain ⟨t, -, -, e⟩ := Orem_pos (Nat.pos_of_ne_zero h)
  exact reg_ne_dma _ (congrArg (fun g : GSem nD τ sig => g.2) e)

theorem recvCell_eq {c d : Dev nD} {s t : ℕ} (hs : s < 14) (ht : t < 14) (h : recvCell c s = recvCell d t) : c = d ∧ s = t := by
  refine ⟨congrArg (fun g : GSem nD τ sig => g.1.1) h, ?_⟩
  have h := SemLoc.dma.inj (congrArg Prod.snd h)
  rw [← stepOf_recv hs, ← stepOf_recv ht, h]

theorem Orem_recv (d c : Dev nD) {s : ℕ} (hs : s < 14) : Orem d 0 (recvCell c s) () = if d = left c then N else 0 := by
  unfold Orem
  rw [Finset.sum_apply, Finsupp.finset_sum_apply]
  split
  · next h =>
    subst h
    rw [right_left, Finset.sum_eq_single_of_mem s (Finset.mem_Ico.mpr ⟨Nat.zero_le _, hs⟩), tallyAt_apply, if_pos ⟨rfl, rfl⟩]
    intro t ht hne
    rw [tallyAt_apply, if_neg]
    exact fun e => hne (recvCell_eq hs (Finset.mem_Ico.mp ht).2 e.1).2.symm
  · next h =>
    refine Finset.sum_eq_zero fun t ht => ?_
    rw [tallyAt_apply, if_neg]
    exact fun e => h (by rw [(recvCell_eq hs (Finset.mem_Ico.mp ht).2 e.1).1, left_right])

theorem bar_unit (d c : Dev nD) : tallyAt (barCell d) () 1 (barCell c) () = if c = d then 1 else 0 := by
  rw [tallyAt_apply]
  by_cases h : c = d
  · subst h; rw [if_pos ⟨rfl, rfl⟩, if_pos rfl]
  · rw [if_neg h, if_neg]
    exact fun e => h (congrArg (fun g : GSem nD τ sig => g.1.1) e.1)

theorem owed_bar (d c : Dev nD) : O₀ d (barCell c) () = (if d = left c then 1 else 0) + (if d = right c then 1 else 0) := by
  unfold O₀
  rw [Pi.add_apply, Finsupp.add_apply, Pi.add_apply, Finsupp.add_apply, Orem_bar, bar_unit, bar_unit, Nat.zero_add]
  have h₁ : c = right d ↔ d = left c := ⟨fun h => by rw [h, left_right], fun h => by rw [h, right_left]⟩
  have h₂ : c = left d ↔ d = right c := ⟨fun h => by rw [h, right_left], fun h => by rw [h, left_right]⟩
  simp only [h₁, h₂]

theorem owed_recv (d c : Dev nD) {s : ℕ} (hs : s < 14) : O₀ d (recvCell c s) () = if d = left c then N else 0 := by
  have hb (d : Dev nD) : tallyAt (barCell d) () 1 (recvCell c s) () = 0 := by
    rw [tallyAt_apply, if_neg]
    exact fun e => reg_ne_dma _ (congrArg (fun g : GSem nD τ sig => g.2) e.1.symm)
  unfold O₀
  rw [Pi.add_apply, Finsupp.add_apply, Pi.add_apply, Finsupp.add_apply, Orem_recv d c hs, hb, hb, Nat.add_zero]

theorem credit_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (left c) fun _ => 1, Finset.sum_ite_eq' Finset.univ (right c) fun _ => 1,
    if_pos (Finset.mem_univ _), if_pos (Finset.mem_univ _)]

theorem credit_recv (c : Dev nD) {s : ℕ} (hs : s < 14) :
    tallyOn (recvCell c s) (launchCredit (Pipeline.owing O₀) 0 (recvCell c s)) = (tallyAt (recvCell c s) () N : CellTallies nD τ sig Unit) := by
  unfold tallyAt
  refine congrArg _ (Finsupp.ext fun u => ?_)
  cases u
  rw [Pipeline.launchCredit_owing, Finsupp.single_eq_same, Finset.sum_congr rfl fun d _ => owed_recv d c hs,
    Finset.sum_ite_eq' Finset.univ (left c) fun _ => N, if_pos (Finset.mem_univ _)]

/-- A device's receive semaphores. -/
def recvEmb : Fin 14 ↪ SemLoc sig := ⟨fun s => .dma (recvSem s.val), fun _ _ h =>
  congrArg Prod.fst (osem_injective (a₁ := (_, true)) (a₂ := (_, true)) h)⟩

omit [FloatOps F] in
/-- A device's credit: two units of its barrier cell, a chunk of each receive cell. -/
theorem credits (c : Dev nD) : (Pipeline.launchCred O₀ c : sProp 𝕄)
    ⊢ iprop(cred (tallyAt (barCell c) () 2) ∗ bigSep (Finset.Ico 0 14) fun s => cred (tallyAt (recvCell c s) () N)) := by
  unfold Pipeline.launchCred
  rw [bigSep_univ_at _ (SemLoc.reg barrier0), credit_bar, ← bigSep_steps fun s => (cred (tallyAt (recvCell c s) () N) : sProp 𝕄)]
  refine sep_mono_right ?_
  refine Entails.trans (bigSep_subset (t := Finset.univ.map recvEmb) ?_) (Entails.of_eq ?_)
  · intro sm h
    obtain ⟨s, -, rfl⟩ := Finset.mem_map.mp h
    exact Finset.mem_erase.mpr ⟨fun e => reg_ne_dma _ e.symm, Finset.mem_univ _⟩
  · rw [bigSep_map]
    exact bigSep_congr fun s _ => congrArg (fun x : CellTallies nD τ sig Unit => (cred x : sProp 𝕄)) (credit_recv c s.isLt)

/-! ## The deal -/

/-- What every device may consult. -/
def records (K : GSem nD τ sig → ℕ) : sProp 𝕄 :=
  iprop(invs A K ∗ bigSep Finset.univ fun c : Dev nD => reached ER (barCell c) 0)
instance records_persistent (K : GSem nD τ sig → ℕ) : BI.Persistent (records A K) := by unfold records; infer_instance

/-- The rights to open device `c`'s ring cells. -/
def opens (c : Dev nD) : sProp 𝕄 := bigSep (Finset.Ico 0 14) fun s => iprop(openTok ER (sendCell c s) ∗ openTok ER (recvCell c s))

/-- What device `c` holds at the launch beside the records. -/
def own (c : Dev nD) : sProp 𝕄 :=
  iprop((cred (tallyAt (barCell c) () 2) ∗ bigSep (Finset.Ico 0 14) fun s => cred (tallyAt (recvCell c s) () N))
    ∗ atPos ER (barCell c) 0 ∅ 0 ∗ opens (F := F) c ∗ pays (F := F) c)

omit [FloatOps F] in
theorem dormants (c : Dev nD) : bigSep (Finset.Ico 0 14) (dormant (F := F) c)
    = (iprop((bigSep (Finset.Ico 0 14) fun s => dutyTok ER (recvCell (right c) s) 0 false) ∗ (bigSep (Finset.Ico 0 14) fun s => dutyTok ER (sendCell c s) 0 false)
      ∗ opens (F := F) c ∗ bigSep (Finset.Ico 0 14) fun s => cred (tallyAt (recvCell c s) () N)) : sProp 𝕄) := by
  unfold dormant opens
  rw [bigSep_sep', bigSep_sep', bigSep_sep']

theorem start_intro (K : GSem nD τ sig → ℕ) (c : Dev nD) : iprop(records A K ∗ own (F := F) c) ⊢ start A c := by
  unfold records own start bars pays
  rw [dormants, bigSep_sep']
  have hr (d : Dev nD) : (bigSep Finset.univ fun c : Dev nD => (reached ER (barCell c) 0 : sProp 𝕄)) ⊢ reached ER (barCell d) 0 :=
    bigSep_elim (Finset.mem_univ d)
  iintro ⟨⟨#HI, #HR⟩, ⟨Hc2, HcN⟩, Hat, Hop, ⟨Hl, Hr⟩, Hs, Hv⟩
  isplitr; · iexists K; iexact HI
  isplitr [HcN Hop Hs Hv]
  · isplitl [Hl]
    · isplitl [Hl]; · iexact Hl
      iapply (hr (left c)); iexact HR
    isplitl [Hr]
    · isplitl [Hr]; · iexact Hr
      iapply (hr (right c)); iexact HR
    isplitl [Hat] <;> iassumption
  isplitl [Hv]; · iexact Hv
  isplitl [Hs]; · iexact Hs
  isplitl [Hop] <;> iassumption

/-- All the launch element's ring part, on device 0. -/
def G (c : Dev nD) : sProp 𝕄 := if c = 0 then BI.own (ER (launchOf barCells ringCells (barToks ∪ ringToks))) else iprop(emp)

omit [FloatOps F] in
theorem over_G : bigSep Finset.univ (G (F := F)) = BI.own (ER (launchOf barCells ringCells (barToks ∪ ringToks))) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
theorem unscoped_sems (c : Dev nD) : (unscopedSems0 c : sProp 𝕄) = semVal (barCell c) 0 := by
  unfold unscopedSems0
  rw [show (Finset.univ.filter fun sm : SemLoc sig => ¬ sm.isScoped .tc = true) = {SemLoc.reg barrier0} from by decide, bigSep_singleton]

/-- From what the launch hands out to every device's start. -/
theorem deal (ρ : Dev nD → PrngReg) :
    iprop(bigSep Finset.univ fun c : Dev nD => iprop(unscopedSems0 c ∗ owes (c : Thread nD τ) (O₀ c) ∅ ∗ Pipeline.launchCred O₀ c ∗ prngReg c (ρ c) ∗ G (F := F) c))
      ⊢ (|={Set.univ}=> bigSep Finset.univ (riding A) : sProp 𝕄) := by
  have each (c : Dev nD) : iprop(unscopedSems0 c ∗ owes (c : Thread nD τ) (O₀ c) ∅ ∗ Pipeline.launchCred O₀ c ∗ prngReg c (ρ c) ∗ G (F := F) c)
      ⊢ (iprop(((∃ r, prngReg c r) ∗ ∃ W, owes (c : Thread nD τ) (O₀ c) W)
        ∗ (cred (tallyAt (barCell c) () 2) ∗ bigSep (Finset.Ico 0 14) fun s => cred (tallyAt (recvCell c s) () N))
        ∗ semVal (barCell c) 0 ∗ G (F := F) c) : sProp 𝕄) := by
    rw [unscoped_sems]
    iintro ⟨Hs, HO, Hc, Hp, HG⟩
    isplitl [HO Hp]
    · isplitl [Hp]; · iexists (ρ c); iexact Hp
      iexists ∅; iexact HO
    isplitl [Hc]; · iapply (credits (F := F) c); iexact Hc
    isplitl [Hs] <;> iassumption
  have finish (K : GSem nD τ sig → ℕ) (c : Dev nD) :
      iprop(records A K ∗ (((∃ r, prngReg c r) ∗ ∃ W, owes (c : Thread nD τ) (O₀ c) W) ∗ own (F := F) c)) ⊢ riding A c := by
    unfold riding
    iintro ⟨#HR, ⟨Hp, HO⟩, Ho⟩
    isplitl [Hp]; · iexact Hp
    isplitl [Ho]
    · iapply (start_intro A K c)
      isplitr; · iexact HR
      iexact Ho
    iexact HO
  iintro H
  ihave H := (show (bigSep Finset.univ fun c : Dev nD => iprop(unscopedSems0 c ∗ owes (c : Thread nD τ) (O₀ c) ∅ ∗ Pipeline.launchCred O₀ c ∗ prngReg c (ρ c) ∗ G (F := F) c))
      ⊢ _ from bigSep_mono fun c _ => each c) $$ H
  ihave H := (Entails.of_eq (bigSep_sep' _ _ _)) $$ H
  icases H with ⟨Hbase, H⟩
  ihave H := (Entails.of_eq (bigSep_sep' _ _ _)) $$ H
  icases H with ⟨Hcred, H⟩
  ihave H := (Entails.of_eq (bigSep_sep' _ _ _)) $$ H
  icases H with ⟨Hsem, HG⟩
  ihave Hu := (Entails.of_eq (over_G (F := F))) $$ HG
  imod (Rounds.fund_launch ER (ringRd A) cells_disjoint (fun g _ h => h) (barToks ∪ ringToks)) $$ [Hsem Hu] with ⟨%K, -, #HI, #HR, Hat, Hopen, Htok⟩
  · isplitl [Hsem]
    · iapply (Entails.of_eq (over_bars (F := F) fun g => semVal g 0).symm); iexact Hsem
    iexact Hu
  ihave Hat := (Entails.of_eq (over_bars (F := F) fun g => atPos ER g 0 ∅ 0)) $$ Hat
  ihave Hopen := (Entails.of_eq (over_ring (F := F) fun g => openTok ER g)) $$ Hopen
  ihave Htok := (Entails.of_eq (toks_dealt (F := F))) $$ Htok
  imodintro
  iapply (bigSep_with_persistent (S := Finset.univ) (R := records A K)
    (Φ := fun c => iprop(((∃ r, prngReg c r) ∗ ∃ W, owes (c : Thread nD τ) (O₀ c) W) ∗ own (F := F) c)) fun c _ => finish K c)
  isplitr
  · unfold records
    isplitr
    · iapply (Entails.of_eq (over_invs A K)); iexact HI
    iapply (Entails.of_eq (over_bars (F := F) fun g => reached ER g 0)); iexact HR
  iapply (Entails.of_eq (bigSep_sep' _ _ _).symm)
  isplitl [Hbase]; · iexact Hbase
  unfold own
  iapply (Entails.of_eq (bigSep_sep' _ _ _).symm)
  isplitl [Hcred]; · iexact Hcred
  iapply (Entails.of_eq (bigSep_sep' _ _ _).symm)
  isplitl [Hat]; · iexact Hat
  iapply (Entails.of_eq (bigSep_sep' _ _ _).symm)
  isplitl [Hopen]; · iexact Hopen
  iexact Htok

end Cert.KernelIdeal.Run
-- ==== Proof.Run.lean ====
/-
  The run: every device's main, launched together, terminates with its arguments as launched, its result at `result`, and
  every semaphore counter at zero.
-/
module

public import proofs.«01_k».proof.Proof.Start

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Seg RegionSeg)

variable (m : (ℓ : Loc nD τ sig) → Buf (Elt F) ℓ) (ρ : Dev nD → PrngReg)

/-- What rides beside the buffers, before the region and after it. -/
def beside : Fin 2 → Dev nD → sProp 𝕄
  | 0, c => riding (partials (V1 m)) c
  | 1, c => semVal (barCell c) 0

theorem only_barrier : ∀ sm : SemLoc sig, sm.isScoped .tc = false → sm = .reg barrier0 := by decide

/-- The launch element: the staging cells' part and the ring's. -/
def u₀ : UU :=
  (initOf (Pipeline.cells cfgs cellOf_inj) (Pipeline.launchToks cfgs cellOf_inj), launchOf barCells ringCells (barToks ∪ ringToks))

/-- What every device's memory holds at the end. -/
def AtEnd (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v15) = result (partials (V1 m))

theorem leave_of (c : Dev nD) (r : Ref sig .tc) (hr : r ≠ main_v15) (h : r ∉ hostOps0_W) :
    leave (V1 m) c (Proc.devRef .tc r) = m ((c : Thread nD τ).loc r) :=
  (Function.update_of_ne (StableHlo.devRef_ne_of_ne hr) _ _).trans (V1_of m c r h)

/-- The last thread state's buffers, read. -/
theorem read_end (c : Dev nD) (s : Phys nD τ sig (Elt F)) :
    iprop((StableHlo.held (c : Thread nD τ) (Pipeline.ucRefs τ sig) (leave (V1 m) c) ∗ semVal (barCell c) 0) ∗ SI s)
      ⊢ (|={Set.univ}=> iprop(⌜AtEnd m c s.mem ∧ s.mem.sem (barCell c) = 0⌝ ∗ SI s) : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (leave (V1 m) c) s) $$ [Hh HSI]
  · isplitl [Hh] <;> iassumption
  icases Hr with ⟨%h, HSI⟩
  imodintro
  isplitr
  · ipureintro
    have at_ (r : Ref sig .tc) (hu : Proc.devRef .tc r ∈ Pipeline.ucRefs τ sig) := h (Proc.devRef .tc r) hu
    refine ⟨⟨?_, ?_, ?_, ?_, ?_, ?_⟩, by simpa using hb⟩
    · exact (at_ main_arg0 (Finset.mem_filter.mpr ⟨StableHlo.devRef_mem_tcRefs main_arg0, by decide⟩)).trans (leave_of m c main_arg0 (by decide) (by decide))
    · exact (at_ main_arg1 (Finset.mem_filter.mpr ⟨StableHlo.devRef_mem_tcRefs main_arg1, by decide⟩)).trans (leave_of m c main_arg1 (by decide) (by decide))
    · exact (at_ main_arg2 (Finset.mem_filter.mpr ⟨StableHlo.devRef_mem_tcRefs main_arg2, by decide⟩)).trans (leave_of m c main_arg2 (by decide) (by decide))
    · exact (at_ main_arg3 (Finset.mem_filter.mpr ⟨StableHlo.devRef_mem_tcRefs main_arg3, by decide⟩)).trans (leave_of m c main_arg3 (by decide) (by decide))
    · exact (at_ main_arg4 (Finset.mem_filter.mpr ⟨StableHlo.devRef_mem_tcRefs main_arg4, by decide⟩)).trans (leave_of m c main_arg4 (by decide) (by decide))
    · exact (at_ main_v15 (Finset.mem_filter.mpr ⟨StableHlo.devRef_mem_tcRefs main_v15, by decide⟩)).trans (Function.update_self _ _ _)
  · iexact HSI

set_option backward.isDefEq.respectTransparency.types false in
theorem run : θ_run defs (onTc (τ := τ) (main (F := F))) ⟨m, fun _ => 0, ρ⟩
    (fun r => (∀ c : Dev nD, AtEnd m c r.2) ∧ r.2.sem = fun _ => 0) := by
  refine Pipeline.θ_run_regions_kit_dev_sems (pcfgs (F := F)) adm (dats (V1 m)) () cellOf_inj EP defs₀ 𝒱₀ L lv m ρ main
    (segs m 𝒱₀ L lv (beside m) () (dats (V1 m)) (region (V1 m)))
    (fun c Q => by
      rewrite [main_chain c, Seg.run_eq_chain,
        show (segs m 𝒱₀ L lv (beside m) () (dats (V1 m)) (region (V1 m)) c).map Seg.prog = [
          StableHlo.seq (hostOps0 c), Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (G (F := F)) u₀ ?_
    (T₀ := fun c => iprop(StableHlo.held (c : Thread nD τ) (Pipeline.ucRefs τ sig) (V0 m c) ∗ beside m 0 c))
    (Tₙ := fun c => iprop(StableHlo.held (c : Thread nD τ) (Pipeline.ucRefs τ sig) (leave (V1 m) c) ∗ semVal (barCell c) 0))
    (hch := fun c => ⟨.rfl, region_pre (V1 m) c, region_post (V1 m) c⟩)
    (hinit := ?_)
    (QY := fun c s => AtEnd m c s ∧ s.sem (barCell c) = 0)
    (hfin := fun c s => read_end m c s)
    (hQ := fun s h hs => ⟨fun c => (h c).1, sem_eq_zero hs fun c sm hsm => by
      obtain rfl := only_barrier sm hsm
      exact (h c).2⟩)
  · unfold u₀
    iintro Hu
    ihave H := (ownU_pair _ _) $$ Hu
    icases H with ⟨HP, HX⟩
    imodintro
    isplitl [HP]; · iexact HP
    iapply (Entails.of_eq (over_G (F := F)).symm)
    iexact HX
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, -⟩
    ihave H' := hsplit $$ H
    icases H' with ⟨Hh, Hr⟩
    imod (deal (partials (V1 m)) ρ) $$ Hr with HE
    imodintro
    rw [bigSep_sep']
    isplitl [Hh]; · iexact Hh
    iexact HE

end Cert.KernelIdeal.Run
-- ==== Proof.Reference.lean ====
/-
  The reference's result, in named stages: the mask, the masked scores of every head, their exponentials, the weights, the
  heads' outputs and the last product.
-/
module

public import proofs.«01_k».proof.Proof.Gen.ReferenceIdeal.Run

@[expose] public section

set_option maxRecDepth 16384

noncomputable section

namespace Cert.ReferenceIdeal.Stages

open Cert.ReferenceIdeal Cert.ReferenceIdeal.Gen
open Idealize.ShloMosaic
open Idealize.ShloMosaic.TcCoe

variable {F : FTy → Type} [FloatOps F]

/-- The number of the block of 64 each position lies in. -/
def blockNo : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

def rowBlock : IVec S512x512 32 :=
  broadcastInDim S512x512 ![0, 1] bcast_S512x1_S512x512_0_1 (broadcastInDim S512x1 ![0] bcast_S512_S512x1_0 blockNo)
def colBlock1 : IVec S1x512 32 := broadcastInDim S1x512 ![1] bcast_S512_S1x512_1 blockNo
def colBlock : IVec S512x512 32 := broadcastInDim S512x512 ![0, 1] bcast_S1x512_S512x512_0_1 colBlock1

/-- The divisor three, as the remainder's guard leaves it, -/
def three : IVec S_ 32 :=
  select (cmpi .eq (id (constantI S_ 32 3#32)) (constantI S_ 32 0#32)) (constantI S_ 32 1#32) (id (constantI S_ 32 3#32))
/-- and the remainder by it before and after the sign is settled. -/
def rem0 : IVec S512x512 32 := Host.remsi (addi rowBlock colBlock) (broadcastInDim S512x512 ![] bcast_S_S512x512 three)
def remSettled : IVec S512x512 32 :=
  select (andi (cmpi .ne (cmpi .slt rem0 (broadcastInDim S512x512 ![] bcast_S_S512x512 (constantI S_ 32 0#32)))
        (broadcastInDim S512x512 ![] bcast_S_S512x512 (cmpi .slt three (constantI S_ 32 0#32))))
      (cmpi .ne rem0 (broadcastInDim S512x512 ![] bcast_S_S512x512 (constantI S_ 32 0#32))))
    (addi rem0 (broadcastInDim S512x512 ![] bcast_S_S512x512 three)) rem0

/-- The mask, and which rows keep any key at all. -/
def mask : IVec S512x512 1 :=
  ori (ori (cmpi .eq rowBlock colBlock)
      (broadcastInDim S512x512 ![0, 1] bcast_S1x512_S512x512_0_1
        (cmpi .eq colBlock1 (broadcastInDim S1x512 ![] bcast_S_S1x512 (constantI S_ 32 0#32)))))
    (cmpi .eq remSettled (broadcastInDim S512x512 ![] bcast_S_S512x512 (constantI S_ 32 0#32)))
def keep : IVec S1x1x512x1 1 :=
  broadcastInDim S1x1x512x1 ![2] bcast_S512_S1x1x512x1_2
    (Host.reduce IntOp.ori mask (constantI S_ 1 0#1) reducesTo_S512x512_S512_d1 h_S_)

/-- The queries, head by head. -/
def queries (x : FVec F S2x512x768 .f32) (wq : FVec F S768x4096 .f32) : FVec F S2x512x64x64 .f32 :=
  shapeCast S2x512x64x64 (Host.dotGeneral dot_S2x512x768_S768x4096_S2x512x4096_2_0_01_1_n_n none x wq) shapeCasts_S2x512x4096_S2x512x64x64

/-- The masked scores, their exponentials, the weights. -/
def scores (q k : FVec F S2x512x64x64 .f32) : FVec F S2x64x512x512 .f32 :=
  select (broadcastInDim S2x64x512x512 ![0, 1, 2, 3] bcast_S1x1x512x512_S2x64x512x512_0_1_2_3
      (broadcastInDim S1x1x512x512 ![2, 3] bcast_S512x512_S1x1x512x512_2_3 mask))
    (mulf (Host.dotGeneral dot_S2x512x64x64_S2x512x64x64_S2x64x512x512_3_3_1_1_02_02 none q k)
      (broadcastInDim S2x64x512x512 ![] bcast_S_S2x64x512x512 (constant S_ .f32 0x3E000000#32)))
    (broadcastInDim S2x64x512x512 ![] bcast_S_S2x64x512x512 (id (constant S_ .f32 0xCE6E6B28#32)))
def exps (s : FVec F S2x64x512x512 .f32) : FVec F S2x64x512x512 .f32 :=
  Host.exp (subf s (broadcastInDim S2x64x512x512 ![0, 1, 2, 3] bcast_S2x64x512x1_S2x64x512x512_0_1_2_3
    (broadcastInDim S2x64x512x1 ![0, 1, 2] bcast_S2x64x512_S2x64x512x1_0_1_2
      (Host.reduce FloatOps.maximumf s (constant S_ .f32 0xFF800000#32) reducesTo_S2x64x512x512_S2x64x512_d3 h_S_))))
def weights (e : FVec F S2x64x512x512 .f32) : FVec F S2x64x512x512 .f32 :=
  select (broadcastInDim S2x64x512x512 ![0, 1, 2, 3] bcast_S1x1x512x1_S2x64x512x512_0_1_2_3 keep)
    (Host.divf e (broadcastInDim S2x64x512x512 ![0, 1, 2, 3] bcast_S2x64x512x1_S2x64x512x512_0_1_2_3
      (select (broadcastInDim S2x64x512x1 ![0, 1, 2, 3] bcast_S1x1x512x1_S2x64x512x1_0_1_2_3 keep)
        (broadcastInDim S2x64x512x1 ![0, 1, 2] bcast_S2x64x512_S2x64x512x1_0_1_2
          (Host.reduceAdd e (constant S_ .f32 0x00000000#32) reducesTo_S2x64x512x512_S2x64x512_d3 h_S_))
        (broadcastInDim S2x64x512x1 ![] bcast_S_S2x64x512x1 (id (constant S_ .f32 0x3F800000#32))))))
    (broadcastInDim S2x64x512x512 ![] bcast_S_S2x64x512x512 (id (constant S_ .f32 0x00000000#32)))

/-- The heads' outputs, positions before heads, and the reference's result. -/
def context (w : FVec F S2x64x512x512 .f32) (v : FVec F S2x512x64x64 .f32) : FVec F S2x512x64x64 .f32 :=
  transpose S2x512x64x64 [0, 3, 1, 2]
    (Host.dotGeneral dot_S2x512x64x64_S2x64x512x512_S2x64x64x512_1_3_3_2_02_01 none v w) transposes_S2x64x64x512_S2x512x64x64_0_3_1_2
def output (x : FVec F S2x512x768 .f32) (wq : FVec F S768x4096 .f32) (k v : FVec F S2x512x64x64 .f32) (wo : FVec F S4096x768 .f32) :
    FVec F S2x512x768 .f32 :=
  Host.dotGeneral dot_S2x512x4096_S4096x768_S2x512x768_2_0_01_1_n_n none
    (shapeCast S2x512x4096 (context (weights (exps (scores (queries x wq) k))) v) shapeCasts_S2x512x64x64_S2x512x4096) wo

open Idealize.SL.Sem in
theorem result (m : (ℓ : Loc nD τ sig) → Buf (Elt F) ℓ) (c : Dev nD) :
    Value.res_out0 m c = output (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v44 output context weights exps scores queries keep mask remSettled rem0 three colBlock colBlock1 rowBlock blockNo
  rfl

end Cert.ReferenceIdeal.Stages
-- ==== Proof.Mask.lean ====
/-
  The mask, on both sides: one function of the two block numbers. The kernel and the reference reach a block number by
  dividing a position by 64 and settling the sign, and the remainder by three likewise.
-/
module

public import proofs.«01_k».proof.Proof.Partial
public import proofs.«01_k».proof.Proof.Reference
public import Idealize.ShloMosaic.Lib.Pointwise
public import Idealize.ShloMosaic.Lib.Routing.OpsOrder

@[expose] public section

set_option maxRecDepth 16384

noncomputable section

namespace Cert.KernelIdeal.Run

open Cert.KernelIdeal Cert.KernelIdeal.Gen
open Idealize.ShloMosaic

/-- Whether queries of block `a` see keys of block `b`. -/
def maskBit (a b : Fin 8) : BitVec 1 := if a = b ∨ b = 0 ∨ (a.val + b.val) % 3 = 0 then 1#1 else 0#1
/-- The block a position lies in. -/
def blk (i : Fin 512) : Fin 8 := ⟨i.val / 64, by omega⟩

theorem maskBit_self (a : Fin 8) : maskBit a a = 1#1 := if_pos (.inl rfl)

theorem rowBlock_at (i j : Fin 512) :
    k0_pay5 (iota .tc S512x512 32 [0] iota_S512x512_d0_w32) 64#32 k0_pay3 k0_pay4 (ix2 i j) = BitVec.ofNat 32 (blk i).val := by
  pointwise [k0_pay5, k0_pay3, k0_pay4]
  revert i
  decide +kernel
theorem colBlock_at (i j : Fin 512) : k0_pay6 (ix2 i j) = BitVec.ofNat 32 (blk j).val := by
  pointwise [k0_pay6]
  revert j
  decide +kernel
theorem blockNo_at (i : Fin 512) : Cert.ReferenceIdeal.Stages.blockNo (ix1 i) = BitVec.ofNat 32 (blk i).val := by
  pointwise [Cert.ReferenceIdeal.Stages.blockNo]
  revert i
  decide +kernel

/-- The kernel's mask, -/
theorem kmask_at (i j : Fin 512) : kmask (ix2 i j) = maskBit (blk i) (blk j) := by
  pointwise [kmask, k0_pay8, k0_pay7]
  rw [rowBlock_at]
  simp only [colBlock_at]
  generalize blk i = a
  generalize blk j = b
  revert a b
  decide +kernel
/-- and the reference's; -/
theorem mask_at (i j : Fin 512) : Cert.ReferenceIdeal.Stages.mask (ix2 i j) = maskBit (blk i) (blk j) := by
  pointwise [Cert.ReferenceIdeal.Stages.mask, Cert.ReferenceIdeal.Stages.remSettled, Cert.ReferenceIdeal.Stages.rem0,
    Cert.ReferenceIdeal.Stages.three, Cert.ReferenceIdeal.Stages.rowBlock, Cert.ReferenceIdeal.Stages.colBlock,
    Cert.ReferenceIdeal.Stages.colBlock1]
  simp only [blockNo_at]
  generalize blk i = a
  generalize blk j = b
  revert a b
  decide +kernel
/-- every row keeps the keys of its own block. -/
theorem keep_at (i : Fin 512) : Cert.ReferenceIdeal.Stages.keep (ix4 0 0 i 0) = 1#1 := by
  pointwise [Cert.ReferenceIdeal.Stages.keep]
  exact (Routing.fold_ori _ _).2 ⟨i, Finset.mem_univ _, (mask_at i i).trans (maskBit_self _)⟩

end Cert.KernelIdeal.Run
-- ==== Proof.Attention.lean ====
/-
  One head of attention as a plain function of its queries, keys and values, and both sides' heads read as it: the kernel's
  `attend`, and the reference's context at one batch entry and head.
-/
module

public import proofs.«01_k».proof.Proof.Mask

@[expose] public section

set_option maxRecDepth 16384

noncomputable section

namespace Cert.KernelIdeal.Run

open Cert.KernelIdeal Cert.KernelIdeal.Gen
open Idealize.ShloMosaic

/-- The masked and scaled score of query `i` and key `j`, -/
def score (q k : Fin 512 → Fin 64 → EReal) (i j : Fin 512) : EReal :=
  Scalar.select (maskBit (blk i) (blk j)) ((∑ d, q i d * k j d) * Ideal.ofBits .f32 0x3E000000#32) (Ideal.ofBits .f32 0xCE6E6B28#32)
/-- its exponential after the row's maximum is taken off, -/
def expo (q k : Fin 512 → Fin 64 → EReal) (i j : Fin 512) : EReal :=
  Ideal.exp (score q k i j - Finset.univ.fold max (Ideal.ofBits .f32 0xFF800000#32) (fun j => score q k i j))
/-- and the head's output: the values weighed by the exponentials over their sum. -/
def head (q k v : Fin 512 → Fin 64 → EReal) (i : Fin 512) (d : Fin 64) : EReal :=
  ∑ j, Ideal.div (expo q k i j) (∑ j', expo q k i j') * v j d

theorem attend_at (q k v : FVec Ideal S512x64 .f32) (i : Fin 512) (d : Fin 64) :
    attend q k v (ix2 i d) = head (fun i d => q (ix2 i d)) (fun i d => k (ix2 i d)) (fun i d => v (ix2 i d)) i d := by
  pointwise [attend, weigh, expScores, scores]
  simp only [kmask_at]
  rfl

theorem select_one {α : Type} (a b : α) : Scalar.select 1#1 a b = a := rfl

theorem refContext_at (q k v : FVec Ideal Cert.ReferenceIdeal.S2x512x64x64 .f32) (b : Fin 2) (i : Fin 512) (h d : Fin 64) :
    Cert.ReferenceIdeal.Stages.context (Cert.ReferenceIdeal.Stages.weights (Cert.ReferenceIdeal.Stages.exps (Cert.ReferenceIdeal.Stages.scores q k))) v (ix4 b i h d)
      = head (fun i d => q (ix4 b i h d)) (fun i d => k (ix4 b i h d)) (fun i d => v (ix4 b i h d)) i d := by
  pointwise [Cert.ReferenceIdeal.Stages.context, Cert.ReferenceIdeal.Stages.weights, Cert.ReferenceIdeal.Stages.exps, Cert.ReferenceIdeal.Stages.scores]
  simp only [mask_at, keep_at, select_one]
  exact Finset.sum_congr rfl fun j _ => mul_comm _ _

end Cert.KernelIdeal.Run
-- ==== Proof.Product.lean ====
/-
  A device's partial product, entry by entry: which head, which row of the queries and which rows of the output weights an
  entry reads.
-/
module

public import proofs.«01_k».proof.Proof.Attention

@[expose] public section

set_option maxRecDepth 16384

noncomputable section

namespace Cert.KernelIdeal.Run

open Cert.KernelIdeal Cert.KernelIdeal.Gen
open Idealize.ShloMosaic

/-- Row `i` of batch entry `b` among the 1024 rows, and column `d` of head `h` among the 512 columns. -/
def rowOf (b : Fin 2) (i : Fin 512) : Fin 1024 := ⟨512 * b.val + i.val, by omega⟩
def colOf (h : Fin 8) (d : Fin 64) : Fin 512 := ⟨64 * h.val + d.val, by omega⟩

theorem queries_at (x : Vec Ideal S2x512x768 .f32) (w : Vec Ideal S768x512 .f32) (b : Fin 2) (i : Fin 512) (n : Fin 512) :
    queries x w (ix2 (rowOf b i) n) = ∑ k : Fin 768, x (ix3 b i k) * w (ix2 k n) := by
  pointwise [queries, k0_pay2, rowOf]

theorem headR_at (b : Fin 2) (h : Fin 8) (i : Fin 512) (d : Fin 64) : (headR b h).emb (ix4 0 i 0 d) = ix4 b i h d := by
  funext a
  apply Fin.ext
  rw [Rect.emb_apply]
  match a with
  | 0 => simp [ix4, Rect.unit]
  | 1 => simp [ix4, Rect.unit]
  | 2 => simp [ix4, Rect.unit]
  | 3 => simp [ix4, Rect.unit]

theorem headOut_at (q : FVec Ideal S1024x512 .f32) (k v : Vec Ideal S2x512x8x64 .f32) (b : Fin 2) (h : Fin 8) (i : Fin 512) (d : Fin 64) :
    headOut q k v b h (ix2 i d)
      = head (fun i d => q (ix2 (rowOf b i) (colOf h d))) (fun i d => k (ix4 b i h d)) (fun i d => v (ix4 b i h d)) i d := by
  rw [headOut, attend_at]
  pointwise [qHead, kvHead]
  simp only [headR_at]
  rfl

theorem headOut_congr (q : FVec Ideal S1024x512 .f32) (k v : Vec Ideal S2x512x8x64 .f32) (b : Fin 2) {h h' : Fin 8}
    (i : Fin 512) {n : ℕ} (hn : n < 64) {d : Fin 64} (hh : h.val = h'.val) (hd : n = d.val) :
    headOut q k v b h (ix2 i ⟨n, hn⟩) = headOut q k v b h' (ix2 i d) := by
  subst hd
  rw [Fin.ext hh]

/-- The eight heads side by side, and the two batch entries one above the other. -/
theorem heads_at (q : FVec Ideal S1024x512 .f32) (k v : Vec Ideal S2x512x8x64 .f32) (b : Fin 2) (i : Fin 512) (h : Fin 8) (d : Fin 64) :
    heads q k v b (ix2 i (colOf h d)) = headOut q k v b h (ix2 i d) := by
  pointwise [heads, colOf]
  split_ifs <;> refine headOut_congr q k v b i _ ?_ ?_ <;> omega
theorem heads_congr (q : FVec Ideal S1024x512 .f32) (k v : Vec Ideal S2x512x8x64 .f32) {b b' : Fin 2}
    {r : ℕ} (hr : r < 512) {i : Fin 512} (n : Fin 512) (hb : b.val = b'.val) (hi : r = i.val) :
    heads q k v b (ix2 ⟨r, hr⟩ n) = heads q k v b' (ix2 i n) := by
  subst hi
  rw [Fin.ext hb]
theorem context_at (q : FVec Ideal S1024x512 .f32) (k v : Vec Ideal S2x512x8x64 .f32) (b : Fin 2) (i : Fin 512) (h : Fin 8) (d : Fin 64) :
    context q k v (ix2 (rowOf b i) (colOf h d)) = headOut q k v b h (ix2 i d) := by
  rw [← heads_at]
  pointwise [context, rowOf]
  split_ifs <;> refine heads_congr q k v _ _ ?_ ?_ <;> omega

theorem product_at (x : Vec Ideal S2x512x768 .f32) (wq : Vec Ideal S768x512 .f32) (k v : Vec Ideal S2x512x8x64 .f32) (wo : Vec Ideal S512x768 .f32)
    (r : Fin 1024) (m : Fin 768) :
    product x wq k v wo (ix2 r m) = ∑ n : Fin 512, context (queries x wq) k v (ix2 r n) * wo (ix2 n m) := by
  pointwise [product]

theorem partialProduct_at (x : Vec Ideal S2x512x768 .f32) (wq : Vec Ideal S768x512 .f32) (k v : Vec Ideal S2x512x8x64 .f32) (wo : Vec Ideal S512x768 .f32)
    (c : Fin 8) (i : Fin 128) (m : Fin 768) :
    partialProduct x wq k v wo (ix3 c i m) = product x wq k v wo (ix2 ⟨c.val * 128 + i.val, by omega⟩ m) := by
  pointwise [partialProduct]

theorem pay1_at (A : Vec Ideal S8x128x768 .f32) (b : Fin 2) (i : Fin 512) (m : Fin 768) :
    k0_pay1 A (ix3 b i m) = A (ix3 ⟨b.val * 4 + i.val / 128, by omega⟩ ⟨i.val % 128, by omega⟩ m) := by
  pointwise [k0_pay1]

theorem pay44_at (A B : Vec Ideal S1x128x768 .f32) (i : Fin 128) (m : Fin 768) :
    k0_pay44 A B (ix3 0 i m) = A (ix3 0 i m) + B (ix3 0 i m) := by
  pointwise [k0_pay44]

end Cert.KernelIdeal.Run
-- ==== Proof.RingSum.lean ====
/-
  What the ring leaves, entry by entry: the sum of the eight devices' partial products. Addition is the idealized one, so the
  order the ring adds in does not matter.
-/
module

public import proofs.«01_k».proof.Proof.Product
public import proofs.«01_k».proof.Proof.Body

@[expose] public section

set_option maxRecDepth 16384

noncomputable section

namespace Cert.KernelIdeal.Run

open Cert.KernelIdeal Cert.KernelIdeal.Gen
open Idealize.ShloMosaic
open Idealize.ShloMosaic.TcCoe

variable (A : Dev nD → (cc0_scratch0 : Ref sig .tc).ty.Contents (Elt Ideal))

/-- The accumulator's entry as a number. -/
def entry (c : Dev nD) (j : Fin 8) (i : Fin 128) (m : Fin 768) : EReal := A c (ix3 j i m)

theorem part_at (c : Dev nD) (j : Fin 8) (i : Fin 128) (m : Fin 768) : part A c j (ix3 0 i m) = entry A c j i m := by
  refine (View.read_apply (v := accM.access (accR j)) (A c) (ix3 0 i m)).trans (congrArg (A c) ?_)
  refine (?_ : (accR j).emb (ix3 0 i m) = ix3 j i m)
  funext a
  apply Fin.ext
  rw [Rect.emb_apply]
  match a with
  | 0 => simp [ix3, Rect.unit]
  | 1 => simp [ix3, Rect.unit]
  | 2 => simp [ix3, Rect.unit]

/-- After `h` additions a chunk has gathered the devices from `c` back to `h` places behind. -/
theorem val_at (c : Dev nD) (h : ℕ) (hh : h < 14) (i : Fin 128) (m : Fin 768) :
    val A c h (ix3 0 i m) = ∑ t ∈ Finset.range (h + 1), entry A (back c t) (back c h) i m := by
  induction h generalizing c with
  | zero =>
    rw [Finset.sum_range_one, back_zero]
    exact part_at A c c i m
  | succ h ih =>
    rw [val, pay44_at, part_at, ih (left c) (by omega), Finset.sum_range_succ' (fun t => entry A (back c t) (back c (h + 1)) i m), back_zero]
    refine (congrArg (fun s : EReal => entry A c (back c (h + 1)) i m + s) (Finset.sum_congr rfl fun t ht => ?_)).trans (add_comm _ _)
    have := Finset.mem_range.1 ht
    rw [back_left c t (by omega), back_left c h (by omega)]

theorem fin_at (j : Fin 8) (i : Fin 128) (m : Fin 768) : fin A j (ix3 0 i m) = ∑ c : Dev nD, entry A c j i m := by
  have hj : back (left j) 7 = j := by revert j; decide
  rw [fin, val_at A (left j) 7 (by decide), hj, ← back_image (left j) 0 (.inl rfl), Finset.sum_image (back_inj (left j) 0 (.inl rfl)),
    Finset.range_eq_Ico]

/-- The result of the kernel, entry by entry. -/
theorem result_at (b : Fin 2) (i : Fin 512) (m : Fin 768) :
    result A (ix3 b i m) = ∑ c : Dev nD, entry A c ⟨b.val * 4 + i.val / 128, by omega⟩ ⟨i.val % 128, by omega⟩ m := by
  refine (pay1_at (done A) b i m).trans ?_
  rw [← fin_at]
  refine congrArg (fin A _) ?_
  funext a
  match a with
  | ⟨0, _⟩ => rfl
  | ⟨1, _⟩ => rfl
  | ⟨2, _⟩ => rfl

end Cert.KernelIdeal.Run
-- ==== Proof.HostSlices.lean ====
/-
  The keys and values a device is handed: its eight of the sixty-four heads.
-/
module

public import proofs.«01_k».proof.Proof.Region
public import Idealize.ShloMosaic.Lib.Pointwise
public import Idealize.ShloMosaic.Lib.DynamicIndex
public import Idealize.ShloMosaic.Lib.StableHlo.RunRead

@[expose] public section

set_option maxRecDepth 16384

noncomputable section

namespace Cert.KernelIdeal.Run

open Cert.KernelIdeal Cert.KernelIdeal.Gen
open Idealize.ShloMosaic
open Idealize.ShloMosaic.TcCoe
open Idealize.SL.Sem

variable {F : FTy → Type} [FloatOps F]

/-- The word of the first head of device `c`. -/
theorem first_head (c : Dev nD) :
    muli (id (Host.remui (Host.divui (constantI S_ 32 (Dev.word c)) (constantI S_ 32 1#32)) (constantI S_ 32 8#32))) (constantI S_ 32 8#32)
      = constantI S_ 32 (BitVec.ofNat 32 (8 * c.val)) := by
  funext i
  have h : ∀ c : Dev nD, IntOp.muli (IntOp.remui .host (IntOp.divui .host (Dev.word c) 1#32) 8#32) 8#32 = BitVec.ofNat 32 (8 * c.val) := by decide +kernel
  exact h c

theorem slices_dev (c : Dev nD) : S2x512x64x64.Slices ![0, 0, 8 * c.val, 0] S2x512x8x64 := by revert c; decide

variable (m : (ℓ : Loc nD τ sig) → Buf (Elt F) ℓ)

/-- The keys it is handed, -/
theorem keys_eq (c : Dev nD) :
    V1 m c main_v9 = extractStridedSlice S2x512x8x64 ![0, 0, 8 * c.val, 0] (m ((c.tc : Thread nD τ).loc main_arg2)) (slices_dev c) := by
  unfold V1
  after_reads_simp
  refine Host.dynamicSlice_eq_extractStridedSlice _ _ _ _ _ (slices_dev c) fun k => ?_
  match k with
  | 0 =>
    dsimp only [Matrix.cons_val]
    after_reads_simp
    rfl
  | 1 =>
    dsimp only [Matrix.cons_val]
    after_reads_simp
    rfl
  | 2 =>
    dsimp only [Matrix.cons_val]
    after_reads_simp
    rw [first_head]
    exact toInt_wrap_ofNat (8 * c.val) (by have := c.isLt; simp only [nD] at this; omega)
  | 3 =>
    dsimp only [Matrix.cons_val]
    after_reads_simp
    rfl

/-- and the values. -/
theorem values_eq (c : Dev nD) :
    V1 m c main_v14 = extractStridedSlice S2x512x8x64 ![0, 0, 8 * c.val, 0] (m ((c.tc : Thread nD τ).loc main_arg3)) (slices_dev c) := by
  unfold V1
  after_reads_simp
  refine Host.dynamicSlice_eq_extractStridedSlice _ _ _ _ _ (slices_dev c) fun k => ?_
  match k with
  | 0 =>
    dsimp only [Matrix.cons_val]
    after_reads_simp
    rfl
  | 1 =>
    dsimp only [Matrix.cons_val]
    after_reads_simp
    rfl
  | 2 =>
    dsimp only [Matrix.cons_val]
    after_reads_simp
    rw [first_head]
    exact toInt_wrap_ofNat (8 * c.val) (by have := c.isLt; simp only [nD] at this; omega)
  | 3 =>
    dsimp only [Matrix.cons_val]
    after_reads_simp
    rfl

end Cert.KernelIdeal.Run
-- ==== Proof.Sum.lean ====
/-
  The eight devices' products, each over its own heads, its own columns of the query weights and its own rows of the output
  weights, add to the reference's product over all sixty-four heads.
-/
module

public import proofs.«01_k».proof.Proof.RingSum
public import Idealize.ShloMosaic.Lib.LayoutAt
public import proofs.«01_k».proof.Proof.HostSlices

@[expose] public section

set_option maxRecDepth 16384

noncomputable section

namespace Cert.KernelIdeal.Run

open Cert.KernelIdeal Cert.KernelIdeal.Gen
open Idealize.ShloMosaic

/-- Head `h` of device `c` among all the heads, and column `n` of its 512 among all the columns. -/
def headAll (c h : Fin 8) : Fin 64 := ⟨8 * c.val + h.val, by omega⟩
def colAll (c : Fin 8) (n : Fin 512) : Fin 4096 := ⟨c.val * 512 + n.val, by omega⟩

/-- A device's columns of the query weights, its rows of the output weights, -/
abbrev wqOf (wq : FVec Ideal Cert.ReferenceIdeal.S768x4096 .f32) (c : Fin 8) : FVec Ideal S768x512 .f32 :=
  Layout.block ⟨2, ![768, 512]⟩ ⟨2, ![768, 4096]⟩ 1 8 c wq
abbrev woOf (wo : FVec Ideal Cert.ReferenceIdeal.S4096x768 .f32) (c : Fin 8) : FVec Ideal S512x768 .f32 :=
  Layout.block ⟨2, ![512, 768]⟩ ⟨2, ![4096, 768]⟩ 0 8 c wo
/-- and its heads. -/
abbrev kvOf (k : FVec Ideal S2x512x64x64 .f32) (c : Fin 8) : FVec Ideal S2x512x8x64 .f32 :=
  extractStridedSlice S2x512x8x64 ![0, 0, 8 * c.val, 0] k (slices_dev c)

theorem wqOf_at (wq : FVec Ideal Cert.ReferenceIdeal.S768x4096 .f32) (c : Fin 8) (k : Fin 768) (n : Fin 512) :
    wqOf wq c (ix2 k n) = wq (ix2 k (colAll c n)) := by
  unfold wqOf colAll
  shard_ext
theorem woOf_at (wo : FVec Ideal Cert.ReferenceIdeal.S4096x768 .f32) (c : Fin 8) (n : Fin 512) (m : Fin 768) :
    woOf wo c (ix2 n m) = wo (ix2 (colAll c n) m) := by
  unfold woOf colAll
  shard_ext
theorem kvOf_at (k : FVec Ideal S2x512x64x64 .f32) (c : Fin 8) (b : Fin 2) (j : Fin 512) (h : Fin 8) (d : Fin 64) :
    kvOf k c (ix4 b j h d) = k (ix4 b j (headAll c h) d) := by
  pointwise [headAll]

variable (x : FVec Ideal S2x512x768 .f32) (wq : FVec Ideal Cert.ReferenceIdeal.S768x4096 .f32) (k v : FVec Ideal S2x512x64x64 .f32)
  (wo : FVec Ideal Cert.ReferenceIdeal.S4096x768 .f32)

theorem refQueries_at (b : Fin 2) (i : Fin 512) (c h : Fin 8) (d : Fin 64) :
    Cert.ReferenceIdeal.Stages.queries x wq (ix4 b i (headAll c h) d) = ∑ e : Fin 768, x (ix3 b i e) * wq (ix2 e (colAll c (colOf h d))) := by
  pointwise [Cert.ReferenceIdeal.Stages.queries]
  refine Finset.sum_congr rfl fun e _ => congrArg (fun n => x (ix3 b i e) * wq (ix2 e n)) (Fin.ext ?_)
  simp only [headAll, colAll, colOf]
  omega

/-- A device's context at a column is the reference's at the column's place among all the heads. -/
theorem devContext_at (c : Fin 8) (b : Fin 2) (i : Fin 512) (h : Fin 8) (d : Fin 64) :
    context (queries x (wqOf wq c)) (kvOf k c) (kvOf v c) (ix2 (rowOf b i) (colOf h d))
      = Cert.ReferenceIdeal.Stages.context (Cert.ReferenceIdeal.Stages.weights (Cert.ReferenceIdeal.Stages.exps
          (Cert.ReferenceIdeal.Stages.scores (Cert.ReferenceIdeal.Stages.queries x wq) k))) v (ix4 b i (headAll c h) d) := by
  rw [context_at, headOut_at, refContext_at]
  simp only [queries_at, wqOf_at, kvOf_at, refQueries_at]

/-- The reference's context, its heads side by side, -/
def refColumn (b : Fin 2) (i : Fin 512) (n : Fin 4096) : EReal :=
  Cert.ReferenceIdeal.Stages.context (Cert.ReferenceIdeal.Stages.weights (Cert.ReferenceIdeal.Stages.exps
    (Cert.ReferenceIdeal.Stages.scores (Cert.ReferenceIdeal.Stages.queries x wq) k))) v
      (ix4 b i ⟨n.val / 64, by omega⟩ ⟨n.val % 64, by omega⟩)

theorem output_at (b : Fin 2) (i : Fin 512) (m : Fin 768) :
    Cert.ReferenceIdeal.Stages.output x wq k v wo (ix3 b i m) = ∑ n : Fin 4096, refColumn x wq k v b i n * wo (ix2 n m) := by
  pointwise [Cert.ReferenceIdeal.Stages.output, refColumn]

theorem colOf_parts (n : Fin 512) : colOf ⟨n.val / 64, by omega⟩ ⟨n.val % 64, by omega⟩ = n :=
  Fin.ext (by simp only [colOf]; omega)

/-- and a device's context in its own columns. -/
theorem devColumn_at (c : Fin 8) (b : Fin 2) (i : Fin 512) (n : Fin 512) :
    context (F := Ideal) (queries x (wqOf wq c)) (kvOf k c) (kvOf v c) (ix2 (rowOf b i) n) = refColumn x wq k v b i (colAll c n) := by
  have h1 : headAll c ⟨n.val / 64, by omega⟩ = ⟨(colAll c n).val / 64, by omega⟩ := Fin.ext (by simp only [headAll, colAll]; omega)
  have h2 : (⟨n.val % 64, by omega⟩ : Fin 64) = ⟨(colAll c n).val % 64, by omega⟩ := Fin.ext (by simp only [colAll]; omega)
  have h := devContext_at x wq k v c b i ⟨n.val / 64, by omega⟩ ⟨n.val % 64, by omega⟩
  rw [colOf_parts, h1, h2] at h
  exact h

/-- All the columns, device by device. -/
theorem sum_columns (f : Fin 4096 → EReal) : ∑ n, f n = ∑ c : Fin 8, ∑ n : Fin 512, f (colAll c n) := by
  rw [← Fintype.sum_prod_type']
  refine (Fintype.sum_equiv (finProdFinEquiv (m := 8) (n := 512)) _ _ fun p => congrArg f (Fin.ext ?_)).symm
  simp only [colAll, finProdFinEquiv_apply_val]
  omega

theorem sum_products (b : Fin 2) (i : Fin 512) (m : Fin 768) :
    ∑ c : Fin 8, product x (wqOf wq c) (kvOf k c) (kvOf v c) (woOf wo c) (ix2 (rowOf b i) m)
      = Cert.ReferenceIdeal.Stages.output x wq k v wo (ix3 b i m) := by
  rw [output_at, sum_columns]
  refine Finset.sum_congr rfl fun c _ => (product_at _ _ _ _ _ _ _).trans (Finset.sum_congr rfl fun n _ => ?_)
  rw [devColumn_at, woOf_at]

end Cert.KernelIdeal.Run
-- ==== Proof.Value.lean ====
/-
  The kernel's result is the reference's: the ring's sum of the eight partial products, each read at the arrays its device holds.
-/
module

public import proofs.«01_k».proof.Proof.Sum

@[expose] public section

set_option maxRecDepth 16384

noncomputable section

namespace Cert.KernelIdeal.Run

open Cert.KernelIdeal Cert.KernelIdeal.Gen
open Idealize.ShloMosaic
open Idealize.ShloMosaic.TcCoe
open Idealize.SL.Sem

/-- The ring's result from the arrays: when every device's operands are its parts of the whole ones. -/
theorem result_parts (W : Dev nD → Valuation τ sig (Elt Ideal)) (x : FVec Ideal S2x512x768 .f32) (wq : FVec Ideal Cert.ReferenceIdeal.S768x4096 .f32)
    (k v : FVec Ideal S2x512x64x64 .f32) (wo : FVec Ideal Cert.ReferenceIdeal.S4096x768 .f32)
    (h0 : ∀ c, W c main_arg0 = x) (h1 : ∀ c, W c main_arg1 = wqOf wq c) (h2 : ∀ c, W c main_v9 = kvOf k c) (h3 : ∀ c, W c main_v14 = kvOf v c)
    (h4 : ∀ c, W c main_arg4 = woOf wo c) :
    result (partials W) = Cert.ReferenceIdeal.Stages.output x wq k v wo := by
  have hp : ∀ c, partials W c = partialProduct (F := Ideal) x (wqOf wq c) (kvOf k c) (kvOf v c) (woOf wo c) := fun c => by
    unfold partials
    rw [h0, h1, h2, h3, h4]
  have hj : ∀ (b : Fin 2) (i : Fin 512) (m : Fin 768),
      result (partials W) (ix3 b i m) = Cert.ReferenceIdeal.Stages.output x wq k v wo (ix3 b i m) := by
    intro b i m
    have hs : ∑ c : Dev nD, entry (partials W) c ⟨b.val * 4 + i.val / 128, by omega⟩ ⟨i.val % 128, by omega⟩ m
        = ∑ c : Dev nD, product (F := Ideal) x (wqOf wq c) (kvOf k c) (kvOf v c) (woOf wo c) (ix2 (rowOf b i) m) := by
      refine Finset.sum_congr rfl fun c _ => ?_
      unfold entry
      rw [hp, partialProduct_at]
      refine congrArg (fun r => product (F := Ideal) x (wqOf wq c) (kvOf k c) (kvOf v c) (woOf wo c) (ix2 r m)) (Fin.ext ?_)
      simp only [rowOf]
      omega
    exact (result_at (partials W) b i m).trans (hs.trans (sum_products x wq k v wo b i m))
  refine funext fun (j : S2x512x768.Idx) => ?_
  rw [eq_ix3 j]
  exact hj _ _ _

/-- The value equation: what the run leaves on every device is the reference's result. -/
theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (h : ∀ c : Dev nD,
      m ((c.tc : Thread nD τ).loc main_arg0) = m' (((0 : Dev Cert.ReferenceIdeal.nD).tc : Thread Cert.ReferenceIdeal.nD Cert.ReferenceIdeal.τ).loc Cert.ReferenceIdeal.main_arg0)
      ∧ m ((c.tc : Thread nD τ).loc main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread nD τ).loc main_arg2) = m' (((0 : Dev Cert.ReferenceIdeal.nD).tc : Thread Cert.ReferenceIdeal.nD Cert.ReferenceIdeal.τ).loc Cert.ReferenceIdeal.main_arg2)
      ∧ m ((c.tc : Thread nD τ).loc main_arg3) = m' (((0 : Dev Cert.ReferenceIdeal.nD).tc : Thread Cert.ReferenceIdeal.nD Cert.ReferenceIdeal.τ).loc Cert.ReferenceIdeal.main_arg3)
      ∧ m ((c.tc : Thread nD τ).loc main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) :
    result (partials (V1 m)) = Cert.ReferenceIdeal.Value.res_out0 m' 0 := by
  rw [Cert.ReferenceIdeal.Stages.result]
  refine result_parts (V1 m) _ _ _ _ _ ?_ ?_ ?_ ?_ ?_
  · exact fun c => (V1_of m c main_arg0 (by decide)).trans (h c).1
  · exact fun c => (V1_of m c main_arg1 (by decide)).trans (h c).2.1
  · exact fun c => (keys_eq m c).trans (congrArg (fun k => kvOf k c) (h c).2.2.1)
  · exact fun c => (values_eq m c).trans (congrArg (fun k => kvOf k c) (h c).2.2.2.1)
  · exact fun c => (V1_of m c main_arg4 (by decide)).trans (h c).2.2.2.2

end Cert.KernelIdeal.Run
-- ==== Proof.lean ====
/- The claim, assembled: the three frames and the equality of the results from the runs and the value equation. -/
module

public import proofs.«01_k».proof.Defs
public import proofs.«01_k».proof.Proof.Gen.ReferenceIdeal
public import proofs.«01_k».proof.Proof.Gen.ReferenceIdeal.Run
public import proofs.«01_k».proof.Proof.Bits.Run
public import proofs.«01_k».proof.Proof.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

theorem frame_kernel : Cert.quiescent_Kernel := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.Kernel.Run.run m g)

theorem frame_kernelIdeal : Cert.quiescent_KernelIdeal := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.KernelIdeal.Run.run m g)

theorem frame_referenceIdeal : Cert.quiescent_ReferenceIdeal := fun m g _ =>
  (θ_run _ _ _).mono (fun r h => ⟨fun c => (h c).2, sem_eq_zero_of_no_sems rfl r.2⟩) (Cert.ReferenceIdeal.Value.run m g)

theorem algebraic : Cert.algebraic_KernelIdeal_ReferenceIdeal := fun m g m' g' _ h =>
  ⟨Cert.ReferenceIdeal.Value.res_out0 m' 0,
    (θ_run _ _ _).mono (fun _ r c => ⟨(r.1 c).2.2.2.2.2.trans (Cert.KernelIdeal.Run.result_eq m m' h), (r.1 c).1, (r.1 c).2.1, (r.1 c).2.2.1, (r.1 c).2.2.2.1, (r.1 c).2.2.2.2.1⟩)
      (Cert.KernelIdeal.Run.run m g),
    (θ_run _ _ _).mono (fun _ r => r 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
